-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024 .f32) : IVec S2x2048x1024 1 × IVec S1024x1024 1 × IVec S1024x1024 1 × IVec S1024 1 × IVec S1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg6
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Kernel.lean ====
abbrev S2x2048x1024 : Shape := ⟨3, ![2, 2048, 1024]⟩
abbrev S1024x1024 : Shape := ⟨2, ![1024, 1024]⟩
abbrev S1024 : Shape := ⟨1, ![1024]⟩
abbrev S2x512x2x2x1024 : Shape := ⟨5, ![2, 512, 2, 2, 1024]⟩
abbrev S1x1024 : Shape := ⟨2, ![1, 1024]⟩
abbrev S2x512x2x1024 : Shape := ⟨4, ![2, 512, 2, 1024]⟩
abbrev S2x512x1024 : Shape := ⟨3, ![2, 512, 1024]⟩
abbrev S1x128x2x2x1024 : Shape := ⟨5, ![1, 128, 2, 2, 1024]⟩
abbrev S1x128x2x1024 : Shape := ⟨4, ![1, 128, 2, 1024]⟩
abbrev S1x128x1024 : Shape := ⟨3, ![1, 128, 1024]⟩
abbrev S128x2x2x1024 : Shape := ⟨4, ![128, 2, 2, 1024]⟩
abbrev S128x2x1024 : Shape := ⟨3, ![128, 2, 1024]⟩
abbrev S128x1024 : Shape := ⟨2, ![128, 1024]⟩
abbrev S128x2 : Shape := ⟨2, ![128, 2]⟩
abbrev S128x2x1 : Shape := ⟨3, ![128, 2, 1]⟩
abbrev S1x1x1024 : Shape := ⟨3, ![1, 1, 1024]⟩
abbrev S1024x2048 : Shape := ⟨2, ![1024, 2048]⟩
abbrev S2048x1024 : Shape := ⟨2, ![2048, 1024]⟩
abbrev S512x1024 : Shape := ⟨2, ![512, 1024]⟩
abbrev S2048x2048 : Shape := ⟨2, ![2048, 2048]⟩
abbrev S512x2048 : Shape := ⟨2, ![512, 2048]⟩
abbrev S2x1024x2048 : Shape := ⟨3, ![2, 1024, 2048]⟩
abbrev S2x512x2048 : Shape := ⟨3, ![2, 512, 2048]⟩
abbrev S4096x1024 : Shape := ⟨2, ![4096, 1024]⟩
abbrev S4096x2048 : Shape := ⟨2, ![4096, 2048]⟩
abbrev S2x2048x2048 : Shape := ⟨3, ![2, 2048, 2048]⟩
abbrev S_ : Shape := ⟨0, ![]⟩
abbrev S1x1024x2048 : Shape := ⟨3, ![1, 1024, 2048]⟩
abbrev S1x0x1024x2048 : Shape := ⟨4, ![1, 0, 1024, 2048]⟩
abbrev S0x1024x2048 : Shape := ⟨3, ![0, 1024, 2048]⟩
abbrev S2x1x2048 : Shape := ⟨3, ![2, 1, 2048]⟩
abbrev S2x1x6x2048 : Shape := ⟨4, ![2, 1, 6, 2048]⟩
abbrev S2x6x2048 : Shape := ⟨3, ![2, 6, 2048]⟩
abbrev S2x1036x2048 : Shape := ⟨3, ![2, 1036, 2048]⟩
abbrev S2x1036x1 : Shape := ⟨3, ![2, 1036, 1]⟩
abbrev S2x1036x1x0 : Shape := ⟨4, ![2, 1036, 1, 0]⟩
abbrev S2x1036x0 : Shape := ⟨3, ![2, 1036, 0]⟩
abbrev S1x512x2048 : Shape := ⟨3, ![1, 512, 2048]⟩
abbrev S1x0x512x2048 : Shape := ⟨4, ![1, 0, 512, 2048]⟩
abbrev S0x512x2048 : Shape := ⟨3, ![0, 512, 2048]⟩
abbrev S2x1x1x2048 : Shape := ⟨4, ![2, 1, 1, 2048]⟩
abbrev S2x514x2048 : Shape := ⟨3, ![2, 514, 2048]⟩
abbrev S2x514x1 : Shape := ⟨3, ![2, 514, 1]⟩
abbrev S2x514x1x0 : Shape := ⟨4, ![2, 514, 1, 0]⟩
abbrev S2x514x0 : Shape := ⟨3, ![2, 514, 0]⟩
abbrev S2x1024x1024 : Shape := ⟨3, ![2, 1024, 1024]⟩
abbrev S1x1024x128 : Shape := ⟨3, ![1, 1024, 128]⟩
abbrev S1x1036x128 : Shape := ⟨3, ![1, 1036, 128]⟩
abbrev S1x514x128 : Shape := ⟨3, ![1, 514, 128]⟩
abbrev S1x2048x128 : Shape := ⟨3, ![1, 2048, 128]⟩
abbrev S1024x128 : Shape := ⟨2, ![1024, 128]⟩
abbrev S1024x2 : Shape := ⟨2, ![1024, 2]⟩
abbrev S512x2x128 : Shape := ⟨3, ![512, 2, 128]⟩
abbrev S1x512x128 : Shape := ⟨3, ![1, 512, 128]⟩
abbrev S512x128 : Shape := ⟨2, ![512, 128]⟩
abbrev S512x1x128 : Shape := ⟨3, ![512, 1, 128]⟩
abbrev S2048x128 : Shape := ⟨2, ![2048, 128]⟩
abbrev S1024x2x128 : Shape := ⟨3, ![1024, 2, 128]⟩
abbrev S1024x1x128 : Shape := ⟨3, ![1024, 1, 128]⟩
abbrev S1024x1 : Shape := ⟨2, ![1024, 1]⟩
abbrev S1024x18 : Shape := ⟨2, ![1024, 18]⟩
abbrev S2x128 : Shape := ⟨2, ![2, 128]⟩

abbrev nBuf : Space → Nat
  | .hbm => 74
  | .vmem => 51
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2x512x2x2x1024, .f32⟩
  | .hbm, ⟨8, _⟩ => ⟨S1x1024, .f32⟩
  | .hbm, ⟨9, _⟩ => ⟨S1x1024, .f32⟩
  | .hbm, ⟨10, _⟩ => ⟨S2x512x2x1024, .f32⟩
  | .hbm, ⟨11, _⟩ => ⟨S2x512x1024, .f32⟩
  | .hbm, ⟨12, _⟩ => ⟨S2x512x2x1024, .f32⟩
  | .hbm, ⟨13, _⟩ => ⟨S1024x2048, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x2048, .f32⟩
  | .hbm, ⟨18, _⟩ => ⟨S2x1024x2048, .f32⟩
  | .hbm, ⟨19, _⟩ => ⟨S1024x1024, .f32⟩
  | .hbm, ⟨20, _⟩ => ⟨S1024x2048, .f32⟩
  | .hbm, ⟨21, _⟩ => ⟨S2x512x2048, .f32⟩
  | .hbm, ⟨22, _⟩ => ⟨S4096x1024, .f32⟩
  | .hbm, ⟨23, _⟩ => ⟨S4096x2048, .f32⟩
  | .hbm, ⟨24, _⟩ => ⟨S2x2048x2048, .f32⟩
  | .hbm, ⟨25, _⟩ => ⟨S_, .i32⟩
  | .hbm, ⟨26, _⟩ => ⟨S1x1024x2048, .f32⟩
  | .hbm, ⟨27, _⟩ => ⟨S1x0x1024x2048, .f32⟩
  | .hbm, ⟨28, _⟩ => ⟨S0x1024x2048, .f32⟩
  | .hbm, ⟨29, _⟩ => ⟨S1x1024x2048, .f32⟩
  | .hbm, ⟨30, _⟩ => ⟨S1x0x1024x2048, .f32⟩
  | .hbm, ⟨31, _⟩ => ⟨S0x1024x2048, .f32⟩
  | .hbm, ⟨32, _⟩ => ⟨S2x1024x2048, .f32⟩
  | .hbm, ⟨33, _⟩ => ⟨S2x1x2048, .f32⟩
  | .hbm, ⟨34, _⟩ => ⟨S2x1x6x2048, .f32⟩
  | .hbm, ⟨35, _⟩ => ⟨S2x6x2048, .f32⟩
  | .hbm, ⟨36, _⟩ => ⟨S2x1x2048, .f32⟩
  | .hbm, ⟨37, _⟩ => ⟨S2x1x6x2048, .f32⟩
  | .hbm, ⟨38, _⟩ => ⟨S2x6x2048, .f32⟩
  | .hbm, ⟨39, _⟩ => ⟨S2x1036x2048, .f32⟩
  | .hbm, ⟨40, _⟩ => ⟨S2x1036x1, .f32⟩
  | .hbm, ⟨41, _⟩ => ⟨S2x1036x1x0, .f32⟩
  | .hbm, ⟨42, _⟩ => ⟨S2x1036x0, .f32⟩
  | .hbm, ⟨43, _⟩ => ⟨S2x1036x1, .f32⟩
  | .hbm, ⟨44, _⟩ => ⟨S2x1036x1x0, .f32⟩
  | .hbm, ⟨45, _⟩ => ⟨S2x1036x0, .f32⟩
  | .hbm, ⟨46, _⟩ => ⟨S2x1036x2048, .f32⟩
  | .hbm, ⟨47, _⟩ => ⟨S_, .i32⟩
  | .hbm, ⟨48, _⟩ => ⟨S1x512x2048, .f32⟩
  | .hbm, ⟨49, _⟩ => ⟨S1x0x512x2048, .f32⟩
  | .hbm, ⟨50, _⟩ => ⟨S0x512x2048, .f32⟩
  | .hbm, ⟨51, _⟩ => ⟨S1x512x2048, .f32⟩
  | .hbm, ⟨52, _⟩ => ⟨S1x0x512x2048, .f32⟩
  | .hbm, ⟨53, _⟩ => ⟨S0x512x2048, .f32⟩
  | .hbm, ⟨54, _⟩ => ⟨S2x512x2048, .f32⟩
  | .hbm, ⟨55, _⟩ => ⟨S2x1x2048, .f32⟩
  | .hbm, ⟨56, _⟩ => ⟨S2x1x1x2048, .f32⟩
  | .hbm, ⟨57, _⟩ => ⟨S2x1x2048, .f32⟩
  | .hbm, ⟨58, _⟩ => ⟨S2x1x2048, .f32⟩
  | .hbm, ⟨59, _⟩ => ⟨S2x1x1x2048, .f32⟩
  | .hbm, ⟨60, _⟩ => ⟨S2x1x2048, .f32⟩
  | .hbm, ⟨61, _⟩ => ⟨S2x514x2048, .f32⟩
  | .hbm, ⟨62, _⟩ => ⟨S2x514x1, .f32⟩
  | .hbm, ⟨63, _⟩ => ⟨S2x514x1x0, .f32⟩
  | .hbm, ⟨64, _⟩ => ⟨S2x514x0, .f32⟩
  | .hbm, ⟨65, _⟩ => ⟨S2x514x1, .f32⟩
  | .hbm, ⟨66, _⟩ => ⟨S2x514x1x0, .f32⟩
  | .hbm, ⟨67, _⟩ => ⟨S2x514x0, .f32⟩
  | .hbm, ⟨68, _⟩ => ⟨S2x514x2048, .f32⟩
  | .hbm, ⟨69, _⟩ => ⟨S2x1024x1024, .f32⟩
  | .hbm, ⟨70, _⟩ => ⟨S2x1024x1024, .f32⟩
  | .hbm, ⟨71, _⟩ => ⟨S2048x1024, .f32⟩
  | .hbm, ⟨72, _⟩ => ⟨S2048x1024, .f32⟩
  | .hbm, ⟨73, _⟩ => ⟨S2x1024x1024, .f32⟩
  | .local _ .vmem, ⟨0, _⟩ => ⟨S1x128x2x2x1024, .f32⟩
  | .local _ .vmem, ⟨1, _⟩ => ⟨S1x128x2x2x1024, .f32⟩
  | .local _ .vmem, ⟨2, _⟩ => ⟨S1x1024, .f32⟩
  | .local _ .vmem, ⟨3, _⟩ => ⟨S1x1024, .f32⟩
  | .local _ .vmem, ⟨4, _⟩ => ⟨S1x128x2x1024, .f32⟩
  | .local _ .vmem, ⟨5, _⟩ => ⟨S1x128x2x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x2x1024, .f32⟩
  | .local _ .vmem, ⟨9, _⟩ => ⟨S1x128x2x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1024x2048, .f32⟩
  | .local _ .vmem, ⟨18, _⟩ => ⟨S512x2048, .f32⟩
  | .local _ .vmem, ⟨19, _⟩ => ⟨S512x2048, .f32⟩
  | .local _ .vmem, ⟨20, _⟩ => ⟨S512x1024, .f32⟩
  | .local _ .vmem, ⟨21, _⟩ => ⟨S512x1024, .f32⟩
  | .local _ .vmem, ⟨22, _⟩ => ⟨S1024x2048, .f32⟩
  | .local _ .vmem, ⟨23, _⟩ => ⟨S512x2048, .f32⟩
  | .local _ .vmem, ⟨24, _⟩ => ⟨S512x2048, .f32⟩
  | .local _ .vmem, ⟨25, _⟩ => ⟨S512x1024, .f32⟩
  | .local _ .vmem, ⟨26, _⟩ => ⟨S512x1024, .f32⟩
  | .local _ .vmem, ⟨27, _⟩ => ⟨S1024x2048, .f32⟩
  | .local _ .vmem, ⟨28, _⟩ => ⟨S512x2048, .f32⟩
  | .local _ .vmem, ⟨29, _⟩ => ⟨S512x2048, .f32⟩
  | .local _ .vmem, ⟨30, _⟩ => ⟨S1x1024x128, .f32⟩
  | .local _ .vmem, ⟨31, _⟩ => ⟨S1x1024x128, .f32⟩
  | .local _ .vmem, ⟨32, _⟩ => ⟨S1x1036x128, .f32⟩
  | .local _ .vmem, ⟨33, _⟩ => ⟨S1x1036x128, .f32⟩
  | .local _ .vmem, ⟨34, _⟩ => ⟨S1x1036x128, .f32⟩
  | .local _ .vmem, ⟨35, _⟩ => ⟨S1x1036x128, .f32⟩
  | .local _ .vmem, ⟨36, _⟩ => ⟨S1x514x128, .f32⟩
  | .local _ .vmem, ⟨37, _⟩ => ⟨S1x514x128, .f32⟩
  | .local _ .vmem, ⟨38, _⟩ => ⟨S1x514x128, .f32⟩
  | .local _ .vmem, ⟨39, _⟩ => ⟨S1x514x128, .f32⟩
  | .local _ .vmem, ⟨40, _⟩ => ⟨S1x2048x128, .f32⟩
  | .local _ .vmem, ⟨41, _⟩ => ⟨S1x2048x128, .f32⟩
  | .local _ .vmem, ⟨42, _⟩ => ⟨S1x2048x128, .f32⟩
  | .local _ .vmem, ⟨43, _⟩ => ⟨S1x2048x128, .f32⟩
  | .local _ .vmem, ⟨44, _⟩ => ⟨S1x1024x128, .f32⟩
  | .local _ .vmem, ⟨45, _⟩ => ⟨S1x1024x128, .f32⟩
  | .local _ .vmem, ⟨46, _⟩ => ⟨S512x1024, .f32⟩
  | .local _ .vmem, ⟨47, _⟩ => ⟨S512x1024, .f32⟩
  | .local _ .vmem, ⟨48, _⟩ => ⟨S1024x1024, .f32⟩
  | .local _ .vmem, ⟨49, _⟩ => ⟨S512x1024, .f32⟩
  | .local _ .vmem, ⟨50, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_v16 : Ref sig .tc := ⟨.hbm, 46, rfl⟩
abbrev main_c_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_v15 : Ref sig .tc := ⟨.hbm, 63, rfl⟩
abbrev main_call1_v16 : Ref sig .tc := ⟨.hbm, 64, rfl⟩
abbrev main_call1_v17 : Ref sig .tc := ⟨.hbm, 65, rfl⟩
abbrev main_call1_v18 : Ref sig .tc := ⟨.hbm, 66, rfl⟩
abbrev main_call1_v19 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg4_1 : Ref sig .tc := ⟨.vmem, 39, rfl⟩
abbrev cc5_stg5_0 : Ref sig .tc := ⟨.vmem, 40, rfl⟩
abbrev cc5_stg5_1 : Ref sig .tc := ⟨.vmem, 41, rfl⟩
abbrev cc5_stg6_0 : Ref sig .tc := ⟨.vmem, 42, rfl⟩
abbrev cc5_stg6_1 : Ref sig .tc := ⟨.vmem, 43, rfl⟩
abbrev cc5_stg7_0 : Ref sig .tc := ⟨.vmem, 44, rfl⟩
abbrev cc5_stg7_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37
abbrev cc5_sem4_0 : DmaSem sig := 38
abbrev cc5_sem4_1 : DmaSem sig := 39
abbrev cc5_sem5_0 : DmaSem sig := 40
abbrev cc5_sem5_1 : DmaSem sig := 41
abbrev cc5_sem6_0 : DmaSem sig := 42
abbrev cc5_sem6_1 : DmaSem sig := 43
abbrev cc5_sem7_0 : DmaSem sig := 44
abbrev cc5_sem7_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50

abbrev nD : Nat := 1
abbrev τ : Topo := Topo.v7x

variable {F : FTy → Type} [FloatOps F]

abbrev grid0 : Pipeline.Grid := ⟨2, ![2, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x2x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![2, 8], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_4 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_6 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1036x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1036x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x514x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x514x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x2048x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x2048x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x1024x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x1024x2x1024 : Shape := ⟨4, ![2, 1024, 2, 1024]⟩
abbrev S_ : Shape := ⟨0, ![]⟩
abbrev S2x1024x1024 : Shape := ⟨3, ![2, 1024, 1024]⟩
abbrev S2x512x2x1024 : Shape := ⟨4, ![2, 512, 2, 1024]⟩
abbrev S2x512x1024 : Shape := ⟨3, ![2, 512, 1024]⟩
abbrev S2x1024 : Shape := ⟨2, ![2, 1024]⟩
abbrev S2x1024x1 : Shape := ⟨3, ![2, 1024, 1]⟩
abbrev S1x1x1024 : Shape := ⟨3, ![1, 1, 1024]⟩
abbrev S2x1024x16x64 : Shape := ⟨4, ![2, 1024, 16, 64]⟩
abbrev S2x16x1024x64 : Shape := ⟨4, ![2, 16, 1024, 64]⟩
abbrev S13 : Shape := ⟨1, ![13]⟩
abbrev S1024x1 : Shape := ⟨2, ![1024, 1]⟩
abbrev S1x13 : Shape := ⟨2, ![1, 13]⟩
abbrev S1024x13 : Shape := ⟨2, ![1024, 13]⟩
abbrev S1024x13x1 : Shape := ⟨3, ![1024, 13, 1]⟩
abbrev S2x16x1024x13x64 : Shape := ⟨5, ![2, 16, 1024, 13, 64]⟩
abbrev S2x512x16x64 : Shape := ⟨4, ![2, 512, 16, 64]⟩
abbrev S2x16x512x64 : Shape := ⟨4, ![2, 16, 512, 64]⟩
abbrev S1024x3 : Shape := ⟨2, ![1024, 3]⟩
abbrev S1024x3x1 : Shape := ⟨3, ![1024, 3, 1]⟩
abbrev S2x16x1024x3x64 : Shape := ⟨5, ![2, 16, 1024, 3, 64]⟩
abbrev S2x2048x16x64 : Shape := ⟨4, ![2, 2048, 16, 64]⟩
abbrev S2x16x2048x64 : Shape := ⟨4, ![2, 16, 2048, 64]⟩
abbrev S1024x2 : Shape := ⟨2, ![1024, 2]⟩
abbrev S1024x2x1 : Shape := ⟨3, ![1024, 2, 1]⟩
abbrev S2x16x1024x2x64 : Shape := ⟨5, ![2, 16, 1024, 2, 64]⟩
abbrev S2x16x1024x18x64 : Shape := ⟨5, ![2, 16, 1024, 18, 64]⟩
abbrev S2x16x1024x18 : Shape := ⟨4, ![2, 16, 1024, 18]⟩
abbrev S2x16x1024x16 : Shape := ⟨4, ![2, 16, 1024, 16]⟩
abbrev S2x16x1024x16x1 : Shape := ⟨5, ![2, 16, 1024, 16, 1]⟩
abbrev S1 : Shape := ⟨1, ![1]⟩
abbrev S1x1x1x1x1 : Shape := ⟨5, ![1, 1, 1, 1, 1]⟩
abbrev S2x16x1024x16x64 : Shape := ⟨5, ![2, 16, 1024, 16, 64]⟩
abbrev S2x16x1024 : Shape := ⟨3, ![2, 16, 1024]⟩
abbrev S2x16x1024x1 : Shape := ⟨4, ![2, 16, 1024, 1]⟩

abbrev nBuf : Space → Nat
  | .hbm => 239
  | .vmem => 0
  | .smem => 0
  | _ => 0

abbrev hbmTy0_0 (i : Nat) : BufTy := match i % 128 with
  | 0 => ⟨S2x2048x1024, .f32⟩
  | 1 => ⟨S1024x1024, .f32⟩
  | 2 => ⟨S1024x1024, .f32⟩
  | 3 => ⟨S1024x1024, .f32⟩
  | 4 => ⟨S1024x1024, .f32⟩
  | 5 => ⟨S1024, .f32⟩
  | 6 => ⟨S1024, .f32⟩
  | 7 => ⟨S2x1024x2x1024, .f32⟩
  | 8 => ⟨S_, .f32⟩
  | 9 => ⟨S2x1024x1024, .f32⟩
  | 10 => ⟨S2x512x2x1024, .f32⟩
  | 11 => ⟨S_, .f32⟩
  | 12 => ⟨S2x512x1024, .f32⟩
  | 13 => ⟨S_, .f32⟩
  | 14 => ⟨S2x1024, .f32⟩
  | 15 => ⟨S2x1024x1, .f32⟩
  | 16 => ⟨S_, .f32⟩
  | 17 => ⟨S2x1024x1, .f32⟩
  | 18 => ⟨S2x1024x1, .f32⟩
  | 19 => ⟨S2x1024x1024, .f32⟩
  | 20 => ⟨S2x1024x1024, .f32⟩
  | 21 => ⟨S2x1024x1024, .f32⟩
  | 22 => ⟨S_, .f32⟩
  | 23 => ⟨S2x1024, .f32⟩
  | 24 => ⟨S2x1024x1, .f32⟩
  | 25 => ⟨S_, .f32⟩
  | 26 => ⟨S2x1024x1, .f32⟩
  | 27 => ⟨S2x1024x1, .f32⟩
  | 28 => ⟨S2x1024x1024, .f32⟩
  | 29 => ⟨S2x1024x1024, .f32⟩
  | 30 => ⟨S_, .f32⟩
  | 31 => ⟨S2x1024x1, .f32⟩
  | 32 => ⟨S2x1024x1, .f32⟩
  | 33 => ⟨S2x1024x1, .f32⟩
  | 34 => ⟨S2x1024x1024, .f32⟩
  | 35 => ⟨S2x1024x1024, .f32⟩
  | 36 => ⟨S1x1x1024, .f32⟩
  | 37 => ⟨S2x1024x1024, .f32⟩
  | 38 => ⟨S2x1024x1024, .f32⟩
  | 39 => ⟨S1x1x1024, .f32⟩
  | 40 => ⟨S2x1024x1024, .f32⟩
  | 41 => ⟨S2x1024x1024, .f32⟩
  | 42 => ⟨S2x1024x1024, .f32⟩
  | 43 => ⟨S2x1024x16x64, .f32⟩
  | 44 => ⟨S2x16x1024x64, .f32⟩
  | 45 => ⟨S2x1024x1024, .f32⟩
  | 46 => ⟨S2x1024x16x64, .f32⟩
  | 47 => ⟨S2x16x1024x64, .f32⟩
  | 48 => ⟨S2x1024x1024, .f32⟩
  | 49 => ⟨S2x1024x16x64, .f32⟩
  | 50 => ⟨S2x16x1024x64, .f32⟩
  | 51 => ⟨S1024, .i32⟩
  | 52 => ⟨S13, .i32⟩
  | 53 => ⟨S_, .i32⟩
  | 54 => ⟨S13, .i32⟩
  | 55 => ⟨S13, .i32⟩
  | 56 => ⟨S1024x1, .i32⟩
  | 57 => ⟨S1x13, .i32⟩
  | 58 => ⟨S1024x13, .i32⟩
  | 59 => ⟨S1024x13, .i32⟩
  | 60 => ⟨S1024x13, .i32⟩
  | 61 => ⟨S_, .i32⟩
  | 62 => ⟨S_, .i32⟩
  | 63 => ⟨S_, .i32⟩
  | 64 => ⟨S1024x13, .i32⟩
  | 65 => ⟨S1024x13, .i32⟩
  | 66 => ⟨S_, .i32⟩
  | 67 => ⟨S1024x13, .i32⟩
  | 68 => ⟨S1024x13, .i32⟩
  | 69 => ⟨S_, .i32⟩
  | 70 => ⟨S1024x13, .i32⟩
  | 71 => ⟨S1024x13, .i1⟩
  | 72 => ⟨S_, .i32⟩
  | 73 => ⟨S1024x13, .i32⟩
  | 74 => ⟨S1024x13, .i32⟩
  | 75 => ⟨S1024x13, .i32⟩
  | 76 => ⟨S1024x13x1, .i32⟩
  | 77 => ⟨S2x16x1024x13x64, .f32⟩
  | 78 => ⟨S_, .i32⟩
  | 79 => ⟨S1024x13, .i32⟩
  | 80 => ⟨S1024x13, .i1⟩
  | 81 => ⟨S_, .i32⟩
  | 82 => ⟨S1024x13, .i32⟩
  | 83 => ⟨S1024x13, .i32⟩
  | 84 => ⟨S1024x13, .i32⟩
  | 85 => ⟨S1024x13x1, .i32⟩
  | 86 => ⟨S2x16x1024x13x64, .f32⟩
  | 87 => ⟨S2x512x1024, .f32⟩
  | 88 => ⟨S2x512x16x64, .f32⟩
  | 89 => ⟨S2x16x512x64, .f32⟩
  | 90 => ⟨S2x512x1024, .f32⟩
  | 91 => ⟨S2x512x16x64, .f32⟩
  | 92 => ⟨S2x16x512x64, .f32⟩
  | 93 => ⟨S_, .i32⟩
  | 94 => ⟨S_, .i32⟩
  | 95 => ⟨S1024, .i32⟩
  | 96 => ⟨S1024, .i32⟩
  | 97 => ⟨S1024, .i32⟩
  | 98 => ⟨S_, .i32⟩
  | 99 => ⟨S1024, .i32⟩
  | 100 => ⟨S1024, .i1⟩
  | 101 => ⟨S1024, .i32⟩
  | 102 => ⟨S1024, .i32⟩
  | 103 => ⟨S_, .i32⟩
  | 104 => ⟨S1024, .i32⟩
  | 105 => ⟨S1024, .i1⟩
  | 106 => ⟨S1024, .i1⟩
  | 107 => ⟨S_, .i32⟩
  | 108 => ⟨S1024, .i32⟩
  | 109 => ⟨S1024, .i32⟩
  | 110 => ⟨S1024, .i32⟩
  | 111 => ⟨S_, .i32⟩
  | 112 => ⟨S1024, .i32⟩
  | 113 => ⟨S1024, .i32⟩
  | 114 => ⟨S_, .i32⟩
  | 115 => ⟨S1024, .i32⟩
  | 116 => ⟨S1024, .i32⟩
  | 117 => ⟨S_, .i32⟩
  | 118 => ⟨S1024, .i32⟩
  | 119 => ⟨S1024, .i32⟩
  | 120 => ⟨S_, .i32⟩
  | 121 => ⟨S1024, .i32⟩
  | 122 => ⟨S1024, .i32⟩
  | 123 => ⟨S_, .i32⟩
  | 124 => ⟨S1024, .i32⟩
  | 125 => ⟨S1024, .i32⟩
  | 126 => ⟨S1024x1, .i32⟩
  | 127 => ⟨S1024x1, .i32⟩
  | _ => ⟨S2x2048x1024, .f32⟩

abbrev hbmTy0_1 (i : Nat) : BufTy := match i % 128 with
  | 0 => ⟨S1024x1, .i32⟩
  | 1 => ⟨S1024x3, .i32⟩
  | 2 => ⟨S_, .i32⟩
  | 3 => ⟨S1024x3, .i32⟩
  | 4 => ⟨S1024x3, .i1⟩
  | 5 => ⟨S_, .i32⟩
  | 6 => ⟨S1024x3, .i32⟩
  | 7 => ⟨S1024x3, .i32⟩
  | 8 => ⟨S1024x3, .i32⟩
  | 9 => ⟨S1024x3x1, .i32⟩
  | 10 => ⟨S2x16x1024x3x64, .f32⟩
  | 11 => ⟨S_, .i32⟩
  | 12 => ⟨S1024x3, .i32⟩
  | 13 => ⟨S1024x3, .i1⟩
  | 14 => ⟨S_, .i32⟩
  | 15 => ⟨S1024x3, .i32⟩
  | 16 => ⟨S1024x3, .i32⟩
  | 17 => ⟨S1024x3, .i32⟩
  | 18 => ⟨S1024x3x1, .i32⟩
  | 19 => ⟨S2x16x1024x3x64, .f32⟩
  | 20 => ⟨S2x2048x1024, .f32⟩
  | 21 => ⟨S2x2048x16x64, .f32⟩
  | 22 => ⟨S2x16x2048x64, .f32⟩
  | 23 => ⟨S2x2048x1024, .f32⟩
  | 24 => ⟨S2x2048x16x64, .f32⟩
  | 25 => ⟨S2x16x2048x64, .f32⟩
  | 26 => ⟨S_, .i32⟩
  | 27 => ⟨S1024, .i32⟩
  | 28 => ⟨S1024, .i32⟩
  | 29 => ⟨S_, .i32⟩
  | 30 => ⟨S1024, .i32⟩
  | 31 => ⟨S1024, .i32⟩
  | 32 => ⟨S_, .i32⟩
  | 33 => ⟨S1024, .i32⟩
  | 34 => ⟨S1024, .i32⟩
  | 35 => ⟨S_, .i32⟩
  | 36 => ⟨S1024, .i32⟩
  | 37 => ⟨S1024, .i32⟩
  | 38 => ⟨S_, .i32⟩
  | 39 => ⟨S1024, .i32⟩
  | 40 => ⟨S1024, .i32⟩
  | 41 => ⟨S1024x1, .i32⟩
  | 42 => ⟨S1024x1, .i32⟩
  | 43 => ⟨S1024x2, .i32⟩
  | 44 => ⟨S_, .i32⟩
  | 45 => ⟨S1024x2, .i32⟩
  | 46 => ⟨S1024x2, .i1⟩
  | 47 => ⟨S_, .i32⟩
  | 48 => ⟨S1024x2, .i32⟩
  | 49 => ⟨S1024x2, .i32⟩
  | 50 => ⟨S1024x2, .i32⟩
  | 51 => ⟨S1024x2x1, .i32⟩
  | 52 => ⟨S2x16x1024x2x64, .f32⟩
  | 53 => ⟨S_, .i32⟩
  | 54 => ⟨S1024x2, .i32⟩
  | 55 => ⟨S1024x2, .i1⟩
  | 56 => ⟨S_, .i32⟩
  | 57 => ⟨S1024x2, .i32⟩
  | 58 => ⟨S1024x2, .i32⟩
  | 59 => ⟨S1024x2, .i32⟩
  | 60 => ⟨S1024x2x1, .i32⟩
  | 61 => ⟨S2x16x1024x2x64, .f32⟩
  | 62 => ⟨S2x16x1024x18x64, .f32⟩
  | 63 => ⟨S2x16x1024x18x64, .f32⟩
  | 64 => ⟨S2x16x1024x18, .f32⟩
  | 65 => ⟨S_, .f32⟩
  | 66 => ⟨S2x16x1024x18, .f32⟩
  | 67 => ⟨S2x16x1024x18, .f32⟩
  | 68 => ⟨S2x16x1024x16, .f32⟩
  | 69 => ⟨S2x16x1024x16, .i32⟩
  | 70 => ⟨S2x16x1024x16x1, .i32⟩
  | 71 => ⟨S_, .i32⟩
  | 72 => ⟨S2x16x1024x16x1, .i32⟩
  | 73 => ⟨S2x16x1024x16x1, .i1⟩
  | 74 => ⟨S_, .i32⟩
  | 75 => ⟨S2x16x1024x16x1, .i32⟩
  | 76 => ⟨S2x16x1024x16x1, .i32⟩
  | 77 => ⟨S2x16x1024x16x1, .i32⟩
  | 78 => ⟨S1, .i32⟩
  | 79 => ⟨S_, .i32⟩
  | 80 => ⟨S2x16x1024x16x1, .i32⟩
  | 81 => ⟨S2x16x1024x16x1, .i1⟩
  | 82 => ⟨S1x1x1x1x1, .i32⟩
  | 83 => ⟨S2x16x1024x16x1, .i32⟩
  | 84 => ⟨S2x16x1024x16x1, .i1⟩
  | 85 => ⟨S2x16x1024x16x1, .i1⟩
  | 86 => ⟨S_, .i1⟩
  | 87 => ⟨S2x16x1024x16, .i1⟩
  | 88 => ⟨S2x16x1024x16x64, .f32⟩
  | 89 => ⟨S2x16x1024x16x64, .i1⟩
  | 90 => ⟨S_, .f32⟩
  | 91 => ⟨S2x16x1024x16x64, .f32⟩
  | 92 => ⟨S2x16x1024x16x64, .f32⟩
  | 93 => ⟨S_, .f32⟩
  | 94 => ⟨S2x16x1024, .f32⟩
  | 95 => ⟨S_, .f32⟩
  | 96 => ⟨S2x16x1024, .f32⟩
  | 97 => ⟨S2x16x1024, .f32⟩
  | 98 => ⟨S2x16x1024x1, .f32⟩
  | 99 => ⟨S2x16x1024x16, .f32⟩
  | 100 => ⟨S2x16x1024x16, .f32⟩
  | 101 => ⟨S2x16x1024x16, .f32⟩
  | 102 => ⟨S_, .f32⟩
  | 103 => ⟨S2x16x1024, .f32⟩
  | 104 => ⟨S2x16x1024x1, .f32⟩
  | 105 => ⟨S2x16x1024x16, .f32⟩
  | 106 => ⟨S2x16x1024x16, .f32⟩
  | 107 => ⟨S2x16x1024x64, .f32⟩
  | 108 => ⟨S2x1024x16x64, .f32⟩
  | 109 => ⟨S2x1024x1024, .f32⟩
  | 110 => ⟨S2x1024x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_c_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_c : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_0 : Ref sig .tc := ⟨.hbm, 107, rfl⟩
abbrev main_call1_v12 : Ref sig .tc := ⟨.hbm, 108, rfl⟩
abbrev main_call1_v13 : Ref sig .tc := ⟨.hbm, 109, rfl⟩
abbrev main_v67 : Ref sig .tc := ⟨.hbm, 110, rfl⟩
abbrev main_c_13 : Ref sig .tc := ⟨.hbm, 111, rfl⟩
abbrev main_v68 : Ref sig .tc := ⟨.hbm, 112, rfl⟩
abbrev main_v69 : Ref sig .tc := ⟨.hbm, 113, rfl⟩
abbrev main_c_14 : Ref sig .tc := ⟨.hbm, 114, rfl⟩
abbrev main_v70 : Ref sig .tc := ⟨.hbm, 115, rfl⟩
abbrev main_v71 : Ref sig .tc := ⟨.hbm, 116, rfl⟩
abbrev main_c_15 : Ref sig .tc := ⟨.hbm, 117, rfl⟩
abbrev main_v72 : Ref sig .tc := ⟨.hbm, 118, rfl⟩
abbrev main_v73 : Ref sig .tc := ⟨.hbm, 119, rfl⟩
abbrev main_c_16 : Ref sig .tc := ⟨.hbm, 120, rfl⟩
abbrev main_v74 : Ref sig .tc := ⟨.hbm, 121, rfl⟩
abbrev main_v75 : Ref sig .tc := ⟨.hbm, 122, rfl⟩
abbrev main_c_17 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_c_18 : Ref sig .tc := ⟨.hbm, 130, rfl⟩
abbrev main_v82 : Ref sig .tc := ⟨.hbm, 131, rfl⟩
abbrev main_v83 : Ref sig .tc := ⟨.hbm, 132, rfl⟩
abbrev main_c_19 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_c_20 : Ref sig .tc := ⟨.hbm, 139, rfl⟩
abbrev main_v89 : Ref sig .tc := ⟨.hbm, 140, rfl⟩
abbrev main_v90 : Ref sig .tc := ⟨.hbm, 141, rfl⟩
abbrev main_c_21 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_22 : Ref sig .tc := ⟨.hbm, 154, rfl⟩
abbrev main_v102 : Ref sig .tc := ⟨.hbm, 155, rfl⟩
abbrev main_v103 : Ref sig .tc := ⟨.hbm, 156, rfl⟩
abbrev main_c_23 : Ref sig .tc := ⟨.hbm, 157, rfl⟩
abbrev main_v104 : Ref sig .tc := ⟨.hbm, 158, rfl⟩
abbrev main_v105 : Ref sig .tc := ⟨.hbm, 159, rfl⟩
abbrev main_c_24 : Ref sig .tc := ⟨.hbm, 160, rfl⟩
abbrev main_v106 : Ref sig .tc := ⟨.hbm, 161, rfl⟩
abbrev main_v107 : Ref sig .tc := ⟨.hbm, 162, rfl⟩
abbrev main_c_25 : Ref sig .tc := ⟨.hbm, 163, rfl⟩
abbrev main_v108 : Ref sig .tc := ⟨.hbm, 164, rfl⟩
abbrev main_v109 : Ref sig .tc := ⟨.hbm, 165, rfl⟩
abbrev main_c_26 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_27 : Ref sig .tc := ⟨.hbm, 172, rfl⟩
abbrev main_v115 : Ref sig .tc := ⟨.hbm, 173, rfl⟩
abbrev main_v116 : Ref sig .tc := ⟨.hbm, 174, rfl⟩
abbrev main_c_28 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_c_29 : Ref sig .tc := ⟨.hbm, 181, rfl⟩
abbrev main_v122 : Ref sig .tc := ⟨.hbm, 182, rfl⟩
abbrev main_v123 : Ref sig .tc := ⟨.hbm, 183, rfl⟩
abbrev main_c_30 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_31 : Ref sig .tc := ⟨.hbm, 193, rfl⟩
abbrev main_v132 : Ref sig .tc := ⟨.hbm, 194, rfl⟩
abbrev main_v133 : Ref sig .tc := ⟨.hbm, 195, rfl⟩
abbrev main_values : Ref sig .tc := ⟨.hbm, 196, rfl⟩
abbrev main_indices : Ref sig .tc := ⟨.hbm, 197, rfl⟩
abbrev main_v134 : Ref sig .tc := ⟨.hbm, 198, rfl⟩
abbrev main_call2_c : Ref sig .tc := ⟨.hbm, 199, rfl⟩
abbrev main_call2_v0 : Ref sig .tc := ⟨.hbm, 200, rfl⟩
abbrev main_call2_v1 : Ref sig .tc := ⟨.hbm, 201, rfl⟩
abbrev main_call2_c_0 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_call2_c_1 : Ref sig .tc := ⟨.hbm, 206, rfl⟩
abbrev main_call2_c_2 : Ref sig .tc := ⟨.hbm, 207, rfl⟩
abbrev main_call2_v5 : Ref sig .tc := ⟨.hbm, 208, rfl⟩
abbrev main_call2_v6 : Ref sig .tc := ⟨.hbm, 209, rfl⟩
abbrev main_call2_v7 : Ref sig .tc := ⟨.hbm, 210, rfl⟩
abbrev main_call2_v8 : Ref sig .tc := ⟨.hbm, 211, rfl⟩
abbrev main_call2_v9 : Ref sig .tc := ⟨.hbm, 212, rfl⟩
abbrev main_call2_v10 : Ref sig .tc := ⟨.hbm, 213, rfl⟩
abbrev main_call2_c_3 : Ref sig .tc := ⟨.hbm, 214, rfl⟩
abbrev main_call2_v11 : Ref sig .tc := ⟨.hbm, 215, rfl⟩
abbrev main_call2_v12 : Ref sig .tc := ⟨.hbm, 216, rfl⟩
abbrev main_call2_v13 : Ref sig .tc := ⟨.hbm, 217, rfl⟩
abbrev main_call2_cst : Ref sig .tc := ⟨.hbm, 218, rfl⟩
abbrev main_call2_v14 : Ref sig .tc := ⟨.hbm, 219, rfl⟩
abbrev main_v135 : Ref sig .tc := ⟨.hbm, 220, rfl⟩
abbrev main_cst_32 : Ref sig .tc := ⟨.hbm, 221, rfl⟩
abbrev main_v136 : Ref sig .tc := ⟨.hbm, 222, rfl⟩
abbrev main_cst_33 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_cst_34 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩

abbrev nD : Nat := 1
abbrev τ : Topo := Topo.v7x

variable {F : FTy → Type} [FloatOps F]
-- ==== Proof.RunIdeal.Region0.lean ====
/- Region 0 (pools each pair of tokens and normalises): its windows' blocks, what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x128x2x2x1024 := Rect.unit (s := S1x128x2x2x1024) ![0, 0, 0, 0, 0] S1x128x2x2x1024.size inb_S1x128x2x2x1024_S1x128x2x2x1024_0_0_0_0_0
abbrev r0_1 : Rect S1x1024 := Rect.unit (s := S1x1024) ![0, 0] S1x1024.size inb_S1x1024_S1x1024_0_0
abbrev r0_2 : Rect S1x128x2x1024 := Rect.unit (s := S1x128x2x1024) ![0, 0, 0, 0] S1x128x2x1024.size inb_S1x128x2x1024_S1x128x2x1024_0_0_0_0
abbrev r0_3 : Rect S1x128x1024 := Rect.unit (s := S1x128x1024) ![0, 0, 0] S1x128x1024.size inb_S1x128x1024_S1x128x1024_0_0_0

/-! ## What the body leaves in each output window's buffer -/

/-- Window 3's staging buffer after the body, from the input windows' blocks: its 1 store as pieces, LAST
    FIRST. -/
def out0_3 (x0 : Vec F S1x128x2x2x1024 .f32) (x1 : Vec F S1x1024 .f32) (x2 : Vec F S1x1024 .f32) : Vec F S1x128x2x1024 .f32 :=
  View.canon [⟨r0_2, k0_pay6 (View.ld x0 r0_0)⟩]

/-- Its stores tile the buffer (checked by evaluation), so they cover it. -/
theorem cover0_3 (p0 : Vec F S1x128x2x1024 .f32) (y : S1x128x2x1024.Idx) :
    ∃ pc ∈ ([⟨r0_2, p0⟩] : List (View.Piece (Elt F) S1x128x2x1024 .f32)), y ∈ pc.1.set :=
  View.cover_of_tiled [⟨r0_2, p0⟩] S1x128x2x1024.size (by rfl) y

/-- Window 4's staging buffer after the body, from the input windows' blocks: its 1 store as pieces, LAST
    FIRST. -/
def out0_4 (x0 : Vec F S1x128x2x2x1024 .f32) (x1 : Vec F S1x1024 .f32) (x2 : Vec F S1x1024 .f32) : Vec F S1x128x1024 .f32 :=
  View.canon [⟨r0_3, k0_pay1 (k0_pay4 (View.ld x0 r0_0))⟩]

/-- Its stores tile the buffer (checked by evaluation), so they cover it. -/
theorem cover0_4 (p0 : Vec F S1x128x1024 .f32) (y : S1x128x1024.Idx) :
    ∃ pc ∈ ([⟨r0_3, p0⟩] : List (View.Piece (Elt F) S1x128x1024 .f32)), y ∈ pc.1.set :=
  View.cover_of_tiled [⟨r0_3, p0⟩] S1x128x1024.size (by rfl) y

/-- Window 5's staging buffer after the body, from the input windows' blocks: its 1 store as pieces, LAST
    FIRST. -/
def out0_5 (x0 : Vec F S1x128x2x2x1024 .f32) (x1 : Vec F S1x1024 .f32) (x2 : Vec F S1x1024 .f32) : Vec F S1x128x2x1024 .f32 :=
  View.canon [⟨r0_2, k0_pay2 (k0_pay5 (View.ld x0 r0_0) (View.ld x1 r0_1) (View.ld x2 r0_1))⟩]

/-- Its stores tile the buffer (checked by evaluation), so they cover it. -/
theorem cover0_5 (p0 : Vec F S1x128x2x1024 .f32) (y : S1x128x2x1024.Idx) :
    ∃ pc ∈ ([⟨r0_2, p0⟩] : List (View.Piece (Elt F) S1x128x2x1024 .f32)), y ∈ pc.1.set :=
  View.cover_of_tiled [⟨r0_2, p0⟩] S1x128x2x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are straight-line texts, which `sl_exec` runs, through every part call. -/
theorem sound_kernel0 (c : Dev nD) (E : Set ℕ) (i : grid0.Coords) (arg2 : Memref sig .tc .vmem S1x128x2x2x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x128x2x1024 .f32) (harg5 : arg5.IsWhole) (arg6 : Memref sig .tc .vmem S1x128x1024 .f32) (harg6 : arg6.IsWhole) (arg7 : Memref sig .tc .vmem S1x128x2x1024 .f32) (harg7 : arg7.IsWhole)
    (x0 : Vec F S1x128x2x2x1024 .f32) (x1 : Vec F S1x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__prep_body i arg2 harg2 arg3 harg3 arg4 harg4 arg5 harg5 arg6 harg6 arg7 harg7) K := by
  simp only [cc0__prep_body_eq_skeleton]; unfold cc0__prep_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.RunIdeal.Region1.lean ====
/- Region 1 (the query projection): its windows' blocks, what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x1024 := Rect.unit (s := S512x1024) ![0, 0] S512x1024.size inb_S512x1024_S512x1024_0_0
abbrev r1_1 : Rect S1024x1024 := Rect.unit (s := S1024x1024) ![0, 0] S1024x1024.size inb_S1024x1024_S1024x1024_0_0

/-! ## What the body leaves in each output window's buffer -/

/-- Window 2's staging buffer after the body, from the input windows' blocks: its 1 store as pieces, LAST
    FIRST. -/
def out1_2 (x0 : Vec F S512x1024 .f32) (x1 : Vec F S1024x1024 .f32) : Vec F S512x1024 .f32 :=
  View.canon [⟨r1_0, k1_pay1 (View.ld x0 r1_0) (View.ld x1 r1_1)⟩]

/-- Its stores tile the buffer (checked by evaluation), so they cover it. -/
theorem cover1_2 (p0 : Vec F S512x1024 .f32) (y : S512x1024.Idx) :
    ∃ pc ∈ ([⟨r1_0, p0⟩] : List (View.Piece (Elt F) S512x1024 .f32)), y ∈ pc.1.set :=
  View.cover_of_tiled [⟨r1_0, p0⟩] S512x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are straight-line texts, which `sl_exec` runs, through every part call. -/
theorem sound_kernel1 (c : Dev nD) (E : Set ℕ) (i : grid1.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole)
    (x0 : Vec F S512x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_body i arg1 harg1 arg2 harg2 arg3 harg3) K := by
  simp only [cc1__matmul_body_eq_skeleton]; unfold cc1__matmul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.RunIdeal.Region2.lean ====
/- Region 2 (the keys and values of the tokens): its windows' blocks, what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x1024 := Rect.unit (s := S512x1024) ![0, 0] S512x1024.size inb_S512x1024_S512x1024_0_0
abbrev r2_1 : Rect S1024x2048 := Rect.unit (s := S1024x2048) ![0, 0] S1024x2048.size inb_S1024x2048_S1024x2048_0_0
abbrev r2_2 : Rect S512x2048 := Rect.unit (s := S512x2048) ![0, 0] S512x2048.size inb_S512x2048_S512x2048_0_0

/-! ## What the body leaves in each output window's buffer -/

/-- Window 2's staging buffer after the body, from the input windows' blocks: its 1 store as pieces, LAST
    FIRST. -/
def out2_2 (x0 : Vec F S512x1024 .f32) (x1 : Vec F S1024x2048 .f32) : Vec F S512x2048 .f32 :=
  View.canon [⟨r2_2, k2_pay1 (View.ld x0 r2_0) (View.ld x1 r2_1)⟩]

/-- Its stores tile the buffer (checked by evaluation), so they cover it. -/
theorem cover2_2 (p0 : Vec F S512x2048 .f32) (y : S512x2048.Idx) :
    ∃ pc ∈ ([⟨r2_2, p0⟩] : List (View.Piece (Elt F) S512x2048 .f32)), y ∈ pc.1.set :=
  View.cover_of_tiled [⟨r2_2, p0⟩] S512x2048.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are straight-line texts, which `sl_exec` runs, through every part call. -/
theorem sound_kernel2 (c : Dev nD) (E : Set ℕ) (i : grid2.Coords) (arg1 : Memref sig .tc .vmem S512x1024 .f32) (harg1 : arg1.IsWhole) (arg2 : Memref sig .tc .vmem S1024x2048 .f32) (harg2 : arg2.IsWhole) (arg3 : Memref sig .tc .vmem S512x2048 .f32) (harg3 : arg3.IsWhole)
    (x0 : Vec F S512x1024 .f32) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_body i arg1 harg1 arg2 harg2 arg3 harg3) K := by
  simp only [cc2__matmul_body_eq_skeleton]; unfold cc2__matmul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.RunIdeal.Region3.lean ====
/- Region 3 (the keys and values of the parents): its windows' blocks, what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x1024 := Rect.unit (s := S512x1024) ![0, 0] S512x1024.size inb_S512x1024_S512x1024_0_0
abbrev r3_1 : Rect S1024x2048 := Rect.unit (s := S1024x2048) ![0, 0] S1024x2048.size inb_S1024x2048_S1024x2048_0_0
abbrev r3_2 : Rect S512x2048 := Rect.unit (s := S512x2048) ![0, 0] S512x2048.size inb_S512x2048_S512x2048_0_0

/-! ## What the body leaves in each output window's buffer -/

/-- Window 2's staging buffer after the body, from the input windows' blocks: its 1 store as pieces, LAST
    FIRST. -/
def out3_2 (x0 : Vec F S512x1024 .f32) (x1 : Vec F S1024x2048 .f32) : Vec F S512x2048 .f32 :=
  View.canon [⟨r3_2, k3_pay1 (View.ld x0 r3_0) (View.ld x1 r3_1)⟩]

/-- Its stores tile the buffer (checked by evaluation), so they cover it. -/
theorem cover3_2 (p0 : Vec F S512x2048 .f32) (y : S512x2048.Idx) :
    ∃ pc ∈ ([⟨r3_2, p0⟩] : List (View.Piece (Elt F) S512x2048 .f32)), y ∈ pc.1.set :=
  View.cover_of_tiled [⟨r3_2, p0⟩] S512x2048.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are straight-line texts, which `sl_exec` runs, through every part call. -/
theorem sound_kernel3 (c : Dev nD) (E : Set ℕ) (i : grid3.Coords) (arg1 : Memref sig .tc .vmem S512x1024 .f32) (harg1 : arg1.IsWhole) (arg2 : Memref sig .tc .vmem S1024x2048 .f32) (harg2 : arg2.IsWhole) (arg3 : Memref sig .tc .vmem S512x2048 .f32) (harg3 : arg3.IsWhole)
    (x0 : Vec F S512x1024 .f32) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_body i arg1 harg1 arg2 harg2 arg3 harg3) K := by
  simp only [cc3__matmul_body_eq_skeleton]; unfold cc3__matmul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and each output's at `out3_W` of the input blocks; the invariant the
    class's; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run

end
-- ==== Proof.RunIdeal.Region4.lean ====
/- Region 4 (the keys and values of the children): its windows' blocks, what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x1024 := Rect.unit (s := S512x1024) ![0, 0] S512x1024.size inb_S512x1024_S512x1024_0_0
abbrev r4_1 : Rect S1024x2048 := Rect.unit (s := S1024x2048) ![0, 0] S1024x2048.size inb_S1024x2048_S1024x2048_0_0
abbrev r4_2 : Rect S512x2048 := Rect.unit (s := S512x2048) ![0, 0] S512x2048.size inb_S512x2048_S512x2048_0_0

/-! ## What the body leaves in each output window's buffer -/

/-- Window 2's staging buffer after the body, from the input windows' blocks: its 1 store as pieces, LAST
    FIRST. -/
def out4_2 (x0 : Vec F S512x1024 .f32) (x1 : Vec F S1024x2048 .f32) : Vec F S512x2048 .f32 :=
  View.canon [⟨r4_2, k4_pay1 (View.ld x0 r4_0) (View.ld x1 r4_1)⟩]

/-- Its stores tile the buffer (checked by evaluation), so they cover it. -/
theorem cover4_2 (p0 : Vec F S512x2048 .f32) (y : S512x2048.Idx) :
    ∃ pc ∈ ([⟨r4_2, p0⟩] : List (View.Piece (Elt F) S512x2048 .f32)), y ∈ pc.1.set :=
  View.cover_of_tiled [⟨r4_2, p0⟩] S512x2048.size (by rfl) y

/-! ## The body's triple -/

set_option maxHeartbeats 1000000 in
/-- The kernel body on whole staging memrefs, the inputs' at read contents `xW` and the outputs' at anything, runs to
    the continuation holding the inputs' as they were and each output's at `out4_W` of the inputs': the printed functions
    are straight-line texts, which `sl_exec` runs, through every part call. -/
theorem sound_kernel4 (c : Dev nD) (E : Set ℕ) (i : grid4.Coords) (arg1 : Memref sig .tc .vmem S512x1024 .f32) (harg1 : arg1.IsWhole) (arg2 : Memref sig .tc .vmem S1024x2048 .f32) (harg2 : arg2.IsWhole) (arg3 : Memref sig .tc .vmem S512x2048 .f32) (harg3 : arg3.IsWhole)
    (x0 : Vec F S512x1024 .f32) (x1 : Vec F S1024x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_body i arg1 harg1 arg2 harg2 arg3 harg3) K := by
  simp only [cc4__matmul_body_eq_skeleton]; unfold cc4__matmul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and each output's at `out4_W` of the input blocks; the invariant the
    class's; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`, never `rfl`: `Dat`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Run

end
-- ==== Proof.RunIdeal.Region5.lean ====
/- Region 5 (the attention step): its windows' blocks, what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not, for ANY proof
    data whose array is `V`'s (`hA`) and whose body leaves the block in place (`hafter`): `Dat.before_in_eq_fetched` (unfetched, the index has not moved), the window uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1x1024x128 := Rect.unit (s := S1x1024x128) ![0, 0, 0] S1x1024x128.size inb_S1x1024x128_S1x1024x128_0_0_0
abbrev r5_1 : Rect S1x1036x128 := Rect.unit (s := S1x1036x128) ![0, 0, 0] S1x1024x128.size inb_S1x1036x128_S1x1024x128_0_0_0
abbrev r5_2 : Rect S1x1036x128 := Rect.unit (s := S1x1036x128) ![0, 1, 0] S1x1024x128.size inb_S1x1036x128_S1x1024x128_0_1_0
abbrev r5_3 : Rect S1x1036x128 := Rect.unit (s := S1x1036x128) ![0, 2, 0] S1x1024x128.size inb_S1x1036x128_S1x1024x128_0_2_0
abbrev r5_4 : Rect S1x1036x128 := Rect.unit (s := S1x1036x128) ![0, 3, 0] S1x1024x128.size inb_S1x1036x128_S1x1024x128_0_3_0
abbrev r5_5 : Rect S1x1036x128 := Rect.unit (s := S1x1036x128) ![0, 4, 0] S1x1024x128.size inb_S1x1036x128_S1x1024x128_0_4_0
abbrev r5_6 : Rect S1x1036x128 := Rect.unit (s := S1x1036x128) ![0, 5, 0] S1x1024x128.size inb_S1x1036x128_S1x1024x128_0_5_0
abbrev r5_7 : Rect S1x1036x128 := Rect.unit (s := S1x1036x128) ![0, 6, 0] S1x1024x128.size inb_S1x1036x128_S1x1024x128_0_6_0
abbrev r5_8 : Rect S1x1036x128 := Rect.unit (s := S1x1036x128) ![0, 7, 0] S1x1024x128.size inb_S1x1036x128_S1x1024x128_0_7_0
abbrev r5_9 : Rect S1x1036x128 := Rect.unit (s := S1x1036x128) ![0, 8, 0] S1x1024x128.size inb_S1x1036x128_S1x1024x128_0_8_0
abbrev r5_10 : Rect S1x1036x128 := Rect.unit (s := S1x1036x128) ![0, 9, 0] S1x1024x128.size inb_S1x1036x128_S1x1024x128_0_9_0
abbrev r5_11 : Rect S1x1036x128 := Rect.unit (s := S1x1036x128) ![0, 10, 0] S1x1024x128.size inb_S1x1036x128_S1x1024x128_0_10_0
abbrev r5_12 : Rect S1x1036x128 := Rect.unit (s := S1x1036x128) ![0, 11, 0] S1x1024x128.size inb_S1x1036x128_S1x1024x128_0_11_0
abbrev r5_13 : Rect S1x1036x128 := Rect.unit (s := S1x1036x128) ![0, 12, 0] S1x1024x128.size inb_S1x1036x128_S1x1024x128_0_12_0
abbrev r5_14 : Rect S1x514x128 := Rect.unit (s := S1x514x128) ![0, 1, 0] S1x512x128.size inb_S1x514x128_S1x512x128_0_1_0
abbrev r5_15 : Rect S1x514x128 := Rect.unit (s := S1x514x128) ![0, 0, 0] S1x512x128.size inb_S1x514x128_S1x512x128_0_0_0
abbrev r5_16 : Rect S1x514x128 := Rect.unit (s := S1x514x128) ![0, 2, 0] S1x512x128.size inb_S1x514x128_S1x512x128_0_2_0
abbrev r5_17 : Rect S1x2048x128 := Rect.unit (s := S1x2048x128) ![0, 0, 0] S1x2048x128.size inb_S1x2048x128_S1x2048x128_0_0_0

/-! ## What the body leaves in each output window's buffer -/

/-! ### Values of the body that the stores' payloads, spelt out, would write more than once

    Each is a vector the body binds (often a part call's result), stated over the input windows' blocks and
    numbered on from the skeleton's payload functions (`k5_pay46` …, after `k5_pay45`), so that
    `out5_W` and the values after it name it instead of spelling it out; the comment after each is the body's name
    for the value. -/

def k5_pay46 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : IVec S128x2 32 :=
  iota .tc S128x2 32 [0] iota_S128x2_d0_w32 -- `v2`
def k5_pay47 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : IVec S128x2 32 :=
  iota .tc S128x2 32 [1] iota_S128x2_d1_w32 -- `v3`
def k5_pay48 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x128 .f32 :=
  k5_pay2 (View.ld x0 r5_0) -- `v1`
def k5_pay49 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S128x2 .f32 :=
  k5_pay3 (F := F) -- `v30`
def k5_pay50 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay4 (View.ld x0 r5_0) (View.ld x1 r5_1) -- `v34`
def k5_pay51 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay5 (View.ld x0 r5_0) (View.ld x1 r5_2) -- `v38`
def k5_pay52 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay6 (k5_pay48 x0 x1 x2 x3 x4 x5 x6) (k5_pay49 x0 x1 x2 x3 x4 x5 x6) (View.ld x1 r5_3) -- `v42`
def k5_pay53 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay7 (k5_pay48 x0 x1 x2 x3 x4 x5 x6) (k5_pay49 x0 x1 x2 x3 x4 x5 x6) (View.ld x1 r5_4) -- `v46`
def k5_pay54 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay8 (k5_pay48 x0 x1 x2 x3 x4 x5 x6) (k5_pay49 x0 x1 x2 x3 x4 x5 x6) (View.ld x1 r5_5) -- `v50`
def k5_pay55 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay9 (k5_pay48 x0 x1 x2 x3 x4 x5 x6) (k5_pay49 x0 x1 x2 x3 x4 x5 x6) (View.ld x1 r5_6) -- `v54`
def k5_pay56 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay10 (k5_pay48 x0 x1 x2 x3 x4 x5 x6) (k5_pay49 x0 x1 x2 x3 x4 x5 x6) (View.ld x1 r5_7) -- `v58`
def k5_pay57 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay11 (k5_pay48 x0 x1 x2 x3 x4 x5 x6) (k5_pay49 x0 x1 x2 x3 x4 x5 x6) (View.ld x1 r5_8) -- `v62`
def k5_pay58 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay12 (k5_pay48 x0 x1 x2 x3 x4 x5 x6) (k5_pay49 x0 x1 x2 x3 x4 x5 x6) (View.ld x1 r5_9) -- `v66`
def k5_pay59 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  constant S1024x2 .f32 0x00000000#32 -- `cst_56`
def k5_pay60 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay14 (k5_pay48 x0 x1 x2 x3 x4 x5 x6) (k5_pay49 x0 x1 x2 x3 x4 x5 x6) (k5_pay13 (View.ld x1 r5_10)) -- `v70`
def k5_pay61 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay15 (k5_pay48 x0 x1 x2 x3 x4 x5 x6) (k5_pay49 x0 x1 x2 x3 x4 x5 x6) (View.ld x1 r5_11) -- `v74`
def k5_pay62 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay16 (k5_pay48 x0 x1 x2 x3 x4 x5 x6) (k5_pay49 x0 x1 x2 x3 x4 x5 x6) (View.ld x1 r5_12) -- `v78`
def k5_pay63 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay17 (k5_pay48 x0 x1 x2 x3 x4 x5 x6) (k5_pay49 x0 x1 x2 x3 x4 x5 x6) (View.ld x1 r5_13) -- `v82`
def k5_pay64 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay19 (k5_pay48 x0 x1 x2 x3 x4 x5 x6) (k5_pay49 x0 x1 x2 x3 x4 x5 x6) (View.ld x3 r5_14) -- `v90`
def k5_pay65 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay20 (k5_pay48 x0 x1 x2 x3 x4 x5 x6) (k5_pay49 x0 x1 x2 x3 x4 x5 x6) (View.ld x3 r5_15) -- `v97`
def k5_pay66 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x128 .f32 :=
  k5_pay21 (k5_pay48 x0 x1 x2 x3 x4 x5 x6) (View.ld x3 r5_16) -- `v103`
def k5_pay67 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay22 (k5_pay49 x0 x1 x2 x3 x4 x5 x6) (k5_pay66 x0 x1 x2 x3 x4 x5 x6) (k5_pay59 x0 x1 x2 x3 x4 x5 x6) -- `v104`
def k5_pay68 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay24 (k5_pay48 x0 x1 x2 x3 x4 x5 x6) (k5_pay49 x0 x1 x2 x3 x4 x5 x6) (View.ld x5 r5_17) -- `v111`
def k5_pay69 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x2 .f32 :=
  k5_pay25 (k5_pay48 x0 x1 x2 x3 x4 x5 x6) (k5_pay49 x0 x1 x2 x3 x4 x5 x6) (View.ld x5 r5_17) -- `v115`
def k5_pay70 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x18 .f32 :=
  k5_pay30 (k5_pay26 (k5_pay48 x0 x1 x2 x3 x4 x5 x6) (k5_pay49 x0 x1 x2 x3 x4 x5 x6) (k5_pay50 x0 x1 x2 x3 x4 x5 x6) (k5_pay51 x0 x1 x2 x3 x4 x5 x6) (k5_pay52 x0 x1 x2 x3 x4 x5 x6) (k5_pay53 x0 x1 x2 x3 x4 x5 x6) (k5_pay54 x0 x1 x2 x3 x4 x5 x6) (k5_pay55 x0 x1 x2 x3 x4 x5 x6) (k5_pay56 x0 x1 x2 x3 x4 x5 x6) (k5_pay57 x0 x1 x2 x3 x4 x5 x6) (k5_pay58 x0 x1 x2 x3 x4 x5 x6) (k5_pay60 x0 x1 x2 x3 x4 x5 x6) (k5_pay61 x0 x1 x2 x3 x4 x5 x6) (k5_pay62 x0 x1 x2 x3 x4 x5 x6) (k5_pay63 x0 x1 x2 x3 x4 x5 x6) (k5_pay64 x0 x1 x2 x3 x4 x5 x6) (k5_pay65 x0 x1 x2 x3 x4 x5 x6) (k5_pay66 x0 x1 x2 x3 x4 x5 x6) (k5_pay59 x0 x1 x2 x3 x4 x5 x6) (View.ld x5 r5_17)) (iota .tc S1024x18 32 [1] iota_S1024x18_d1_w32) (k5_pay27 (k5_pay48 x0 x1 x2 x3 x4 x5 x6) (k5_pay49 x0 x1 x2 x3 x4 x5 x6) (k5_pay50 x0 x1 x2 x3 x4 x5 x6) (k5_pay51 x0 x1 x2 x3 x4 x5 x6) (k5_pay52 x0 x1 x2 x3 x4 x5 x6) (k5_pay53 x0 x1 x2 x3 x4 x5 x6) (k5_pay54 x0 x1 x2 x3 x4 x5 x6) (k5_pay55 x0 x1 x2 x3 x4 x5 x6) (k5_pay56 x0 x1 x2 x3 x4 x5 x6) (k5_pay57 x0 x1 x2 x3 x4 x5 x6) (k5_pay58 x0 x1 x2 x3 x4 x5 x6) (k5_pay60 x0 x1 x2 x3 x4 x5 x6) (k5_pay61 x0 x1 x2 x3 x4 x5 x6) (k5_pay62 x0 x1 x2 x3 x4 x5 x6) (k5_pay63 x0 x1 x2 x3 x4 x5 x6) (k5_pay64 x0 x1 x2 x3 x4 x5 x6) (k5_pay65 x0 x1 x2 x3 x4 x5 x6) (k5_pay66 x0 x1 x2 x3 x4 x5 x6) (k5_pay59 x0 x1 x2 x3 x4 x5 x6) (View.ld x5 r5_17)) (k5_pay28 (k5_pay48 x0 x1 x2 x3 x4 x5 x6) (k5_pay49 x0 x1 x2 x3 x4 x5 x6) (k5_pay50 x0 x1 x2 x3 x4 x5 x6) (k5_pay51 x0 x1 x2 x3 x4 x5 x6) (k5_pay52 x0 x1 x2 x3 x4 x5 x6) (k5_pay53 x0 x1 x2 x3 x4 x5 x6) (k5_pay54 x0 x1 x2 x3 x4 x5 x6) (k5_pay55 x0 x1 x2 x3 x4 x5 x6) (k5_pay56 x0 x1 x2 x3 x4 x5 x6) (k5_pay57 x0 x1 x2 x3 x4 x5 x6) (k5_pay58 x0 x1 x2 x3 x4 x5 x6) (k5_pay60 x0 x1 x2 x3 x4 x5 x6) (k5_pay61 x0 x1 x2 x3 x4 x5 x6) (k5_pay62 x0 x1 x2 x3 x4 x5 x6) (k5_pay63 x0 x1 x2 x3 x4 x5 x6) (k5_pay64 x0 x1 x2 x3 x4 x5 x6) (k5_pay65 x0 x1 x2 x3 x4 x5 x6) (k5_pay66 x0 x1 x2 x3 x4 x5 x6) (k5_pay59 x0 x1 x2 x3 x4 x5 x6) (View.ld x5 r5_17)) (k5_pay29 (k5_pay48 x0 x1 x2 x3 x4 x5 x6) (k5_pay49 x0 x1 x2 x3 x4 x5 x6) (k5_pay50 x0 x1 x2 x3 x4 x5 x6) (k5_pay51 x0 x1 x2 x3 x4 x5 x6) (k5_pay52 x0 x1 x2 x3 x4 x5 x6) (k5_pay53 x0 x1 x2 x3 x4 x5 x6) (k5_pay54 x0 x1 x2 x3 x4 x5 x6) (k5_pay55 x0 x1 x2 x3 x4 x5 x6) (k5_pay56 x0 x1 x2 x3 x4 x5 x6) (k5_pay57 x0 x1 x2 x3 x4 x5 x6) (k5_pay58 x0 x1 x2 x3 x4 x5 x6) (k5_pay60 x0 x1 x2 x3 x4 x5 x6) (k5_pay61 x0 x1 x2 x3 x4 x5 x6) (k5_pay62 x0 x1 x2 x3 x4 x5 x6) (k5_pay63 x0 x1 x2 x3 x4 x5 x6) (k5_pay64 x0 x1 x2 x3 x4 x5 x6) (k5_pay65 x0 x1 x2 x3 x4 x5 x6) (k5_pay66 x0 x1 x2 x3 x4 x5 x6) (k5_pay59 x0 x1 x2 x3 x4 x5 x6) (View.ld x5 r5_17)) -- `v172`
def k5_pay71 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S1024x18 .f32 :=
  k5_pay33 (k5_pay31 (k5_pay50 x0 x1 x2 x3 x4 x5 x6) (k5_pay51 x0 x1 x2 x3 x4 x5 x6) (k5_pay52 x0 x1 x2 x3 x4 x5 x6) (k5_pay53 x0 x1 x2 x3 x4 x5 x6) (k5_pay54 x0 x1 x2 x3 x4 x5 x6) (k5_pay55 x0 x1 x2 x3 x4 x5 x6) (k5_pay56 x0 x1 x2 x3 x4 x5 x6) (k5_pay57 x0 x1 x2 x3 x4 x5 x6) (k5_pay58 x0 x1 x2 x3 x4 x5 x6) (k5_pay60 x0 x1 x2 x3 x4 x5 x6) (k5_pay61 x0 x1 x2 x3 x4 x5 x6) (k5_pay62 x0 x1 x2 x3 x4 x5 x6) (k5_pay63 x0 x1 x2 x3 x4 x5 x6) (k5_pay64 x0 x1 x2 x3 x4 x5 x6) (k5_pay65 x0 x1 x2 x3 x4 x5 x6) (k5_pay67 x0 x1 x2 x3 x4 x5 x6) (k5_pay68 x0 x1 x2 x3 x4 x5 x6) (k5_pay69 x0 x1 x2 x3 x4 x5 x6)) (iota .tc S1024x18 32 [1] iota_S1024x18_d1_w32) (k5_pay32 (k5_pay50 x0 x1 x2 x3 x4 x5 x6) (k5_pay51 x0 x1 x2 x3 x4 x5 x6) (k5_pay52 x0 x1 x2 x3 x4 x5 x6) (k5_pay53 x0 x1 x2 x3 x4 x5 x6) (k5_pay54 x0 x1 x2 x3 x4 x5 x6) (k5_pay55 x0 x1 x2 x3 x4 x5 x6) (k5_pay56 x0 x1 x2 x3 x4 x5 x6) (k5_pay57 x0 x1 x2 x3 x4 x5 x6) (k5_pay58 x0 x1 x2 x3 x4 x5 x6) (k5_pay60 x0 x1 x2 x3 x4 x5 x6) (k5_pay61 x0 x1 x2 x3 x4 x5 x6) (k5_pay62 x0 x1 x2 x3 x4 x5 x6) (k5_pay63 x0 x1 x2 x3 x4 x5 x6) (k5_pay64 x0 x1 x2 x3 x4 x5 x6) (k5_pay65 x0 x1 x2 x3 x4 x5 x6) (k5_pay67 x0 x1 x2 x3 x4 x5 x6) (k5_pay68 x0 x1 x2 x3 x4 x5 x6) (k5_pay69 x0 x1 x2 x3 x4 x5 x6)) -- `v229`
def k5_pay72 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : IVec S128x2 32 :=
  k5_pay34 (k5_pay46 x0 x1 x2 x3 x4 x5 x6) -- `v231`
def k5_pay73 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : IVec S128x2 1 :=
  k5_pay35 (k5_pay46 x0 x1 x2 x3 x4 x5 x6) -- `v245`
def k5_pay74 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : IVec S128x2 32 :=
  k5_pay36 (k5_pay46 x0 x1 x2 x3 x4 x5 x6) -- `v247`
def k5_pay75 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : IVec S128x2 32 :=
  k5_pay37 -- `v248`
def k5_pay76 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : FVec F S2x128 .f32 :=
  k5_pay38 (F := F) (k5_pay47 x0 x1 x2 x3 x4 x5 x6) (k5_pay72 x0 x1 x2 x3 x4 x5 x6) (k5_pay73 x0 x1 x2 x3 x4 x5 x6) (k5_pay74 x0 x1 x2 x3 x4 x5 x6) (k5_pay75 x0 x1 x2 x3 x4 x5 x6) -- `v257`

/-- Window 7's staging buffer after the body, from the input windows' blocks: its 1 store as pieces, LAST
    FIRST. -/
def out5_7 (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) : Vec F S1x1024x128 .f32 :=
  View.canon [⟨r5_0, k5_pay1 (k5_pay45 (k5_pay70 x0 x1 x2 x3 x4 x5 x6) (k5_pay71 x0 x1 x2 x3 x4 x5 x6) (k5_pay76 x0 x1 x2 x3 x4 x5 x6) (k5_pay43 (k5_pay70 x0 x1 x2 x3 x4 x5 x6) (k5_pay71 x0 x1 x2 x3 x4 x5 x6) (k5_pay76 x0 x1 x2 x3 x4 x5 x6) (k5_pay41 (k5_pay70 x0 x1 x2 x3 x4 x5 x6) (k5_pay71 x0 x1 x2 x3 x4 x5 x6) (k5_pay76 x0 x1 x2 x3 x4 x5 x6) (k5_pay39 (k5_pay47 x0 x1 x2 x3 x4 x5 x6) (k5_pay70 x0 x1 x2 x3 x4 x5 x6) (k5_pay71 x0 x1 x2 x3 x4 x5 x6) (k5_pay72 x0 x1 x2 x3 x4 x5 x6) (k5_pay73 x0 x1 x2 x3 x4 x5 x6) (k5_pay74 x0 x1 x2 x3 x4 x5 x6) (k5_pay75 x0 x1 x2 x3 x4 x5 x6) (View.ld x2 r5_1) (View.ld x2 r5_2) (View.ld x2 r5_3) (View.ld x2 r5_4)) (k5_pay40 (k5_pay70 x0 x1 x2 x3 x4 x5 x6) (k5_pay71 x0 x1 x2 x3 x4 x5 x6)) (View.ld x2 r5_5) (View.ld x2 r5_6) (View.ld x2 r5_7) (View.ld x2 r5_8) (View.ld x2 r5_9)) (k5_pay42 (k5_pay70 x0 x1 x2 x3 x4 x5 x6) (k5_pay71 x0 x1 x2 x3 x4 x5 x6)) (View.ld x2 r5_10) (View.ld x2 r5_11) (View.ld x2 r5_12) (View.ld x2 r5_13)) (k5_pay44 (k5_pay70 x0 x1 x2 x3 x4 x5 x6) (k5_pay71 x0 x1 x2 x3 x4 x5 x6) (k5_pay76 x0 x1 x2 x3 x4 x5 x6) (View.ld x4 r5_14)) (View.ld x4 r5_15) (View.ld x4 r5_16) (View.ld x6 r5_17))⟩]

/-- Its stores tile the buffer (checked by evaluation), so they cover it. -/
theorem cover5_7 (p0 : Vec F S1x1024x128 .f32) (y : S1x1024x128.Idx) :
    ∃ pc ∈ ([⟨r5_0, p0⟩] : List (View.Piece (Elt F) S1x1024x128 .f32)), y ∈ pc.1.set :=
  View.cover_of_tiled [⟨r5_0, p0⟩] S1x1024x128.size (by rfl) y

/-! ## The body's triple -/

set_option maxHeartbeats 2861000 in
/-- The kernel body on whole staging memrefs, the inputs' at read contents `xW` and the outputs' at anything, runs to
    the continuation holding the inputs' as they were and each output's at `out5_W` of the inputs': the printed functions
    are straight-line texts, which `sl_exec` runs, through every part call. -/
theorem sound_kernel5 (c : Dev nD) (E : Set ℕ) (i : grid5.Coords) (arg2 : Memref sig .tc .vmem S1x1024x128 .f32) (harg2 : arg2.IsWhole) (arg3 : Memref sig .tc .vmem S1x1036x128 .f32) (harg3 : arg3.IsWhole) (arg4 : Memref sig .tc .vmem S1x1036x128 .f32) (harg4 : arg4.IsWhole) (arg5 : Memref sig .tc .vmem S1x514x128 .f32) (harg5 : arg5.IsWhole) (arg6 : Memref sig .tc .vmem S1x514x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x1024x128 .f32) (harg9 : arg9.IsWhole)
    (x0 : Vec F S1x1024x128 .f32) (x1 : Vec F S1x1036x128 .f32) (x2 : Vec F S1x1036x128 .f32) (x3 : Vec F S1x514x128 .f32) (x4 : Vec F S1x514x128 .f32) (x5 : Vec F S1x2048x128 .f32) (x6 : Vec F S1x2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out5_7 x0 x1 x2 x3 x4 x5 x6)) -∗ K ⟨⟩))
      ⊢ wp frame (wpE (defs₀ (F := F)) Variants.none c none) E (cc5__attn_body i arg2 harg2 arg3 harg3 arg4 harg4 arg5 harg5 arg6 harg6 arg7 harg7 arg8 harg8 arg9 harg9) K := by
  simp only [cc5__attn_body_eq_skeleton]; unfold cc5__attn_body_skel
  simp only [k5_part1_eq_skeleton, k5_part2_eq_skeleton, k5_part3_eq_skeleton, k5_part4_eq_skeleton, k5_part5_eq_skeleton, k5_part6_eq_skeleton, k5_part7_eq_skeleton, k5_part8_eq_skeleton, k5_part9_eq_skeleton, k5_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover5_7 _)).trans ?_
  rfl

/-! ## The pipeline's proof data -/

/-- The proof data of pipeline 5 on core `c`: the arrays as the region finds them (`V`); after the body at
    point `t` each input's buffer at its block and each output's at `out5_W` of the input blocks; the invariant the
    class's; nothing owed;
    each input's share of its array
    (`Pipeline.shareOf`: the full share of an array several windows stage, dealt among them). -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q w := Pipeline.shareOf spec5 w
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- What the body leaves, window by window (the proof data's `match` reduced by `dsimp`, never `rfl`: `Dat`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Cert.KernelIdeal.Run

end
-- ==== Proof.RunIdeal.Region6.lean ====
/- Region 6 (the output projection): its windows' blocks, what its body leaves in each output block, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): `Dat.before_in_eq_fetched` (unfetched, the index has not moved), the window uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S512x1024 := Rect.unit (s := S512x1024) ![0, 0] S512x1024.size inb_S512x1024_S512x1024_0_0
abbrev r6_1 : Rect S1024x1024 := Rect.unit (s := S1024x1024) ![0, 0] S1024x1024.size inb_S1024x1024_S1024x1024_0_0

/-! ## What the body leaves in each output window's buffer -/

/-- Window 2's staging buffer after the body, from the input windows' blocks: its 1 store as pieces, LAST
    FIRST. -/
def out6_2 (x0 : Vec F S512x1024 .f32) (x1 : Vec F S1024x1024 .f32) : Vec F S512x1024 .f32 :=
  View.canon [⟨r6_0, k6_pay1 (View.ld x0 r6_0) (View.ld x1 r6_1)⟩]

/-- Its stores tile the buffer (checked by evaluation), so they cover it. -/
theorem cover6_2 (p0 : Vec F S512x1024 .f32) (y : S512x1024.Idx) :
    ∃ pc ∈ ([⟨r6_0, p0⟩] : List (View.Piece (Elt F) S512x1024 .f32)), y ∈ pc.1.set :=
  View.cover_of_tiled [⟨r6_0, p0⟩] S512x1024.size (by rfl) y

/-! ## The body's triple -/

set_option maxHeartbeats 1000000 in
/-- The kernel body on whole staging memrefs, the inputs' at read contents `xW` and the outputs' at anything, runs to
    the continuation holding the inputs' as they were and each output's at `out6_W` of the inputs': the printed functions
    are straight-line texts, which `sl_exec` runs, through every part call. -/
theorem sound_kernel6 (c : Dev nD) (E : Set ℕ) (i : grid6.Coords) (arg1 : Memref sig .tc .vmem S512x1024 .f32) (harg1 : arg1.IsWhole) (arg2 : Memref sig .tc .vmem S1024x1024 .f32) (harg2 : arg2.IsWhole) (arg3 : Memref sig .tc .vmem S512x1024 .f32) (harg3 : arg3.IsWhole)
    (x0 : Vec F S512x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_body i arg1 harg1 arg2 harg2 arg3 harg3) K := by
  simp only [cc6__matmul_body_eq_skeleton]; unfold cc6__matmul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of pipeline 6 on core `c`: the arrays as the region finds them (`V`); after the body at
    point `t` each input's buffer at its block and each output's at `out6_W` of the input blocks; the invariant the
    class's; nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents, by projecting the definition (`dsimp`): a region record cites
    this for its arrays rather than have Lean unfold `V`, the fold through @main up to the region's entry. -/
theorem A_eq6 (c : Dev nD) (w : Fin cfg6.W) : (dat6 V c).A w = V c (Pipeline.arrRef spec6 w) := by
  dsimp only [dat6]

/-- What the body leaves, window by window (the proof data's `match` reduced by `dsimp`, never `rfl`: `Dat`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not (`beforeK_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks (`before6_W`), so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The library's body obligation, at every point: the body's triple restated. -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Cert.KernelIdeal.Run

end
-- ==== Proof.RunIdeal.Bounds.lean ====
/- The buffers' contents at each boundary between a host stretch and a region, and that the arguments keep theirs. -/
module

public import proofs.«01_k».proof.Proof.RunIdeal.Region0
public import proofs.«01_k».proof.Proof.RunIdeal.Region1
public import proofs.«01_k».proof.Proof.RunIdeal.Region2
public import proofs.«01_k».proof.Proof.RunIdeal.Region3
public import proofs.«01_k».proof.Proof.RunIdeal.Region4
public import proofs.«01_k».proof.Proof.RunIdeal.Region5
public import proofs.«01_k».proof.Proof.RunIdeal.Region6

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v9, main_v10]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v12, main_v13]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v15, main_c]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-- No operation of `hostOps5_1` allocates a buffer. -/
theorem hostOps5_1_fresh : (hostOps5_1 : List (HloOp τ sig (Elt F))).Forall fun op => op.fresh = ∅ := by
  simp only [List.Forall]; repeat' constructor
/-- The reference each operation of `hostOps5_1` writes, in order. -/
abbrev hostOps5_1_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15, main_call0_v16, main_call0_v17, main_call0_v18, main_call0_v19, main_v16]
theorem hostOps5_1_writes : (hostOps5_1 : List (HloOp τ sig (Elt F))).Forall fun op => op.writes ⊆ (hostOps5_1_W.map (Proc.devRef (τ := τ) .tc)).toFinset :=
  StableHlo.forall_writes_sub_of_map rfl
/-- `hostOps5_1` writes none of the argument arrays (checked: each argument against each reference it writes). -/
theorem hostOps5_1_args : ∀ a ∈ argRefs, a ∉ hostOps5_1_W := ListAll.forall_mem_of_all_decide (by decide +kernel)

/-- No operation of `hostOps5_2` allocates a buffer. -/
theorem hostOps5_2_fresh : (hostOps5_2 : List (HloOp τ sig (Elt F))).Forall fun op => op.fresh = ∅ := by
  simp only [List.Forall]; repeat' constructor
/-- The reference each operation of `hostOps5_2` writes, in order. -/
abbrev hostOps5_2_W : List (Ref sig .tc) := [main_c_0]
theorem hostOps5_2_writes : (hostOps5_2 : List (HloOp τ sig (Elt F))).Forall fun op => op.writes ⊆ (hostOps5_2_W.map (Proc.devRef (τ := τ) .tc)).toFinset :=
  StableHlo.forall_writes_sub_of_map rfl
/-- `hostOps5_2` writes none of the argument arrays (checked: each argument against each reference it writes). -/
theorem hostOps5_2_args : ∀ a ∈ argRefs, a ∉ hostOps5_2_W := ListAll.forall_mem_of_all_decide (by decide +kernel)

/-- No operation of `hostOps5_3` allocates a buffer. -/
theorem hostOps5_3_fresh : (hostOps5_3 : List (HloOp τ sig (Elt F))).Forall fun op => op.fresh = ∅ := by
  simp only [List.Forall]; repeat' constructor
/-- The reference each operation of `hostOps5_3` writes, in order. -/
abbrev hostOps5_3_W : List (Ref sig .tc) := [main_call1_v0, main_call1_v1, main_call1_v2, main_call1_v3, main_call1_v4, main_call1_v5, main_call1_v6, main_call1_v7, main_call1_v8, main_call1_v9, main_call1_v10, main_call1_v11, main_call1_v12, main_call1_v13, main_call1_v14, main_call1_v15, main_call1_v16, main_call1_v17, main_call1_v18, main_call1_v19, main_v17]
theorem hostOps5_3_writes : (hostOps5_3 : List (HloOp τ sig (Elt F))).Forall fun op => op.writes ⊆ (hostOps5_3_W.map (Proc.devRef (τ := τ) .tc)).toFinset :=
  StableHlo.forall_writes_sub_of_map rfl
/-- `hostOps5_3` writes none of the argument arrays (checked: each argument against each reference it writes). -/
theorem hostOps5_3_args : ∀ a ∈ argRefs, a ∉ hostOps5_3_W := ListAll.forall_mem_of_all_decide (by decide +kernel)

/-- No operation of `hostOps5_4` allocates a buffer. -/
theorem hostOps5_4_fresh : (hostOps5_4 : List (HloOp τ sig (Elt F))).Forall fun op => op.fresh = ∅ := by
  simp only [List.Forall]; repeat' constructor
/-- The reference each operation of `hostOps5_4` writes, in order. -/
abbrev hostOps5_4_W : List (Ref sig .tc) := [main_v18]
theorem hostOps5_4_writes : (hostOps5_4 : List (HloOp τ sig (Elt F))).Forall fun op => op.writes ⊆ (hostOps5_4_W.map (Proc.devRef (τ := τ) .tc)).toFinset :=
  StableHlo.forall_writes_sub_of_map rfl
/-- `hostOps5_4` writes none of the argument arrays (checked: each argument against each reference it writes). -/
theorem hostOps5_4_args : ∀ a ∈ argRefs, a ∉ hostOps5_4_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v20]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v22]
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays (checked: each argument against each reference it writes). -/
theorem hostOps7_args : ∀ a ∈ argRefs, a ∉ hostOps7_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded: `Dat.arrAt … N`), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it: an input window's
    array is never written back (`Dat.arrAt_in`, `A_eq4`); any other buffer is left as is. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`): the two hypotheses of `unscopedBufs_of_arrays`. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`. -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
/-- After `hostOps5_1`. -/
abbrev W12 : Dev nD → Valuation τ sig (Elt F) := fun c => StableHlo.after hostOps5_1 (W11 m ρ c)
/-- A reference `hostOps5_1` does not write keeps its contents across it. -/
theorem W12_of (c : Dev nD) (r : Ref sig .tc) (h : r ∉ hostOps5_1_W) : W12 m ρ c (Proc.devRef .tc r) = W11 m ρ c (Proc.devRef .tc r) :=
  StableHlo.after_of_writes_sub hostOps5_1 _ hostOps5_1_writes h
theorem W12_args (c : Dev nD) : ∀ a ∈ argRefs, W12 m ρ c (Proc.devRef .tc a) = m ((c : Thread nD τ).loc a) :=
  fun a ha => (W12_of m ρ c a (hostOps5_1_args a ha)).trans (W11_args m ρ c a ha)
/-- After `hostOps5_2`. -/
abbrev W13 : Dev nD → Valuation τ sig (Elt F) := fun c => StableHlo.after hostOps5_2 (W12 m ρ c)
/-- A reference `hostOps5_2` does not write keeps its contents across it. -/
theorem W13_of (c : Dev nD) (r : Ref sig .tc) (h : r ∉ hostOps5_2_W) : W13 m ρ c (Proc.devRef .tc r) = W12 m ρ c (Proc.devRef .tc r) :=
  StableHlo.after_of_writes_sub hostOps5_2 _ hostOps5_2_writes h
theorem W13_args (c : Dev nD) : ∀ a ∈ argRefs, W13 m ρ c (Proc.devRef .tc a) = m ((c : Thread nD τ).loc a) :=
  fun a ha => (W13_of m ρ c a (hostOps5_2_args a ha)).trans (W12_args m ρ c a ha)
/-- After `hostOps5_3`. -/
abbrev W14 : Dev nD → Valuation τ sig (Elt F) := fun c => StableHlo.after hostOps5_3 (W13 m ρ c)
/-- A reference `hostOps5_3` does not write keeps its contents across it. -/
theorem W14_of (c : Dev nD) (r : Ref sig .tc) (h : r ∉ hostOps5_3_W) : W14 m ρ c (Proc.devRef .tc r) = W13 m ρ c (Proc.devRef .tc r) :=
  StableHlo.after_of_writes_sub hostOps5_3 _ hostOps5_3_writes h
theorem W14_args (c : Dev nD) : ∀ a ∈ argRefs, W14 m ρ c (Proc.devRef .tc a) = m ((c : Thread nD τ).loc a) :=
  fun a ha => (W14_of m ρ c a (hostOps5_3_args a ha)).trans (W13_args m ρ c a ha)
/-- After `hostOps5_4` (region 5's entry). -/
abbrev W15 : Dev nD → Valuation τ sig (Elt F) := fun c => StableHlo.after hostOps5_4 (W14 m ρ c)
/-- A reference `hostOps5_4` does not write keeps its contents across it. -/
theorem W15_of (c : Dev nD) (r : Ref sig .tc) (h : r ∉ hostOps5_4_W) : W15 m ρ c (Proc.devRef .tc r) = W14 m ρ c (Proc.devRef .tc r) :=
  StableHlo.after_of_writes_sub hostOps5_4 _ hostOps5_4_writes h
theorem W15_args (c : Dev nD) : ∀ a ∈ argRefs, W15 m ρ c (Proc.devRef .tc a) = m ((c : Thread nD τ).loc a) :=
  fun a ha => (W15_of m ρ c a (hostOps5_4_args a ha)).trans (W14_args m ρ c a ha)
/-- The same read at the TensorCore's references (what region 5's proof data take). -/
abbrev V15 : (c : Dev nD) → (b : Ref sig .tc) → Buf (Elt F) ((c : Thread nD τ).loc b) := fun c b => W15 m ρ c b
/-- At region 5's exit: its arrays at what the pipeline leaves (the inputs as entered, each output's write-backs
    folded: `Dat.arrAt … N`), every other buffer as entered. -/
def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact (dat5 (V15 m ρ) c).withArrays_arrAt launch₀5.sharedIn _ (A_eq5 (V15 m ρ) c) w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
/-- A reference that is none of region 5's OUTPUT arrays keeps its entry contents across it: an input window's
    array is never written back (`Dat.arrAt_in`, `A_eq5`); any other buffer is left as is. -/
theorem W16_of (c : Dev nD) (r : Ref sig .tc) (h : ∀ w : Fin cfg5.W, Pipeline.arrRef spec5 w = r → (cfg5.win w).isOut = false) :
    W16 m ρ c (Proc.devRef .tc r) = W15 m ρ c (Proc.devRef .tc r) := by
  by_cases hw : ∃ w : Fin cfg5.W, Pipeline.arrRef spec5 w = r
  · obtain ⟨w, rfl⟩ := hw
    exact (W16_arr m ρ c w).trans (((dat5 (V15 m ρ) c).arrAt_in w (h w rfl) _).trans (A_eq5 (V15 m ρ) c w))
  · exact W16_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn5 a ha)).trans (W15_args m ρ c a ha)
/-- The same read at the TensorCore's references (region 5's exit contents). -/
abbrev V16 : (c : Dev nD) → (b : Ref sig .tc) → Buf (Elt F) ((c : Thread nD τ).loc b) := fun c b => W16 m ρ c b
/-- At region 5's exit each of its arrays holds what the pipeline leaves (`hF5`) and every other buffer what it
    held at entry (`hrest5`): the two hypotheses of `unscopedBufs_of_arrays_shared`. -/
theorem hF5 (c : Dev nD) (w : Fin cfg5.W) : (dat5 (V15 m ρ) c).arrAt w cfg5.N = V16 m ρ c (Pipeline.arrRef spec5 w) :=
  (W16_arr m ρ c w).symm
theorem hrest5 (c : Dev nD) : ∀ b, b ∉ Finset.univ.image (Pipeline.arrRef spec5) → V16 m ρ c b = V15 m ρ c b :=
  fun b hb => W16_of_ne m ρ c b fun w e => hb (Finset.mem_image.mpr ⟨w, Finset.mem_univ _, e⟩)

/-- After `hostOps6` (region 6's entry). -/
abbrev W17 : Dev nD → Valuation τ sig (Elt F) := fun c => StableHlo.after hostOps6 (W16 m ρ c)
/-- A reference `hostOps6` does not write keeps its contents across it. -/
theorem W17_of (c : Dev nD) (r : Ref sig .tc) (h : r ∉ hostOps6_W) : W17 m ρ c (Proc.devRef .tc r) = W16 m ρ c (Proc.devRef .tc r) :=
  StableHlo.after_of_writes_sub hostOps6 _ hostOps6_writes h
theorem W17_args (c : Dev nD) : ∀ a ∈ argRefs, W17 m ρ c (Proc.devRef .tc a) = m ((c : Thread nD τ).loc a) :=
  fun a ha => (W17_of m ρ c a (hostOps6_args a ha)).trans (W16_args m ρ c a ha)
/-- The same read at the TensorCore's references (what region 6's proof data take). -/
abbrev V17 : (c : Dev nD) → (b : Ref sig .tc) → Buf (Elt F) ((c : Thread nD τ).loc b) := fun c b => W17 m ρ c b
/-- At region 6's exit: its arrays at what the pipeline leaves (the inputs as entered, each output's write-backs
    folded: `Dat.arrAt … N`), every other buffer as entered. -/
def W18 (c : Dev nD) : Valuation τ sig (Elt F) :=
  Pipeline.withArrays spec6 c (W17 m ρ c) fun w => (dat6 (V17 m ρ) c).arrAt w cfg6.N
theorem W18_arr (c : Dev nD) (w : Fin cfg6.W) :
    W18 m ρ c (Proc.devRef .tc (Pipeline.arrRef spec6 w)) = (dat6 (V17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
/-- A reference that is none of region 6's OUTPUT arrays keeps its entry contents across it: an input window's
    array is never written back (`Dat.arrAt_in`, `A_eq6`); any other buffer is left as is. -/
theorem W18_of (c : Dev nD) (r : Ref sig .tc) (h : ∀ w : Fin cfg6.W, Pipeline.arrRef spec6 w = r → (cfg6.win w).isOut = false) :
    W18 m ρ c (Proc.devRef .tc r) = W17 m ρ c (Proc.devRef .tc r) := by
  by_cases hw : ∃ w : Fin cfg6.W, Pipeline.arrRef spec6 w = r
  · obtain ⟨w, rfl⟩ := hw
    exact (W18_arr m ρ c w).trans (((dat6 (V17 m ρ) c).arrAt_in w (h w rfl) _).trans (A_eq6 (V17 m ρ) c w))
  · exact W18_of_ne m ρ c r fun w e => hw ⟨w, e⟩
/-- Every argument among region 6's arrays is an input window's (checked: each argument against each window). -/
theorem argsIn6 : ∀ a ∈ argRefs, ∀ w : Fin cfg6.W, Pipeline.arrRef spec6 w = a → (cfg6.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn6 a ha)).trans (W17_args m ρ c a ha)
/-- The same read at the TensorCore's references (region 6's exit contents). -/
abbrev V18 : (c : Dev nD) → (b : Ref sig .tc) → Buf (Elt F) ((c : Thread nD τ).loc b) := fun c b => W18 m ρ c b
/-- At region 6's exit each of its arrays holds what the pipeline leaves (`hF6`) and every other buffer what it
    held at entry (`hrest6`): the two hypotheses of `unscopedBufs_of_arrays`. -/
theorem hF6 (c : Dev nD) (w : Fin cfg6.W) : (dat6 (V17 m ρ) c).arrAt w cfg6.N = V18 m ρ c (Pipeline.arrRef spec6 w) :=
  (W18_arr m ρ c w).symm
theorem hrest6 (c : Dev nD) : ∀ b, b ∉ Finset.univ.image (Pipeline.arrRef spec6) → V18 m ρ c b = V17 m ρ c b :=
  fun b hb => W18_of_ne m ρ c b fun w e => hb (Finset.mem_image.mpr ⟨w, Finset.mem_univ _, e⟩)

/-- After `hostOps7`. -/
abbrev W19 : Dev nD → Valuation τ sig (Elt F) := fun c => StableHlo.after hostOps7 (W18 m ρ c)
/-- A reference `hostOps7` does not write keeps its contents across it. -/
theorem W19_of (c : Dev nD) (r : Ref sig .tc) (h : r ∉ hostOps7_W) : W19 m ρ c (Proc.devRef .tc r) = W18 m ρ c (Proc.devRef .tc r) :=
  StableHlo.after_of_writes_sub hostOps7 _ hostOps7_writes h
theorem W19_args (c : Dev nD) : ∀ a ∈ argRefs, W19 m ρ c (Proc.devRef .tc a) = m ((c : Thread nD τ).loc a) :=
  fun a ha => (W19_of m ρ c a (hostOps7_args a ha)).trans (W18_args m ρ c a ha)

/-! ### The arguments end as launched: no host stretch writes one and no region may change one (a region reads it
    through an input window or bypasses it) -/

theorem W19_main_arg0 (c : Dev nD) : W19 m ρ c (Proc.devRef .tc main_arg0) = m ((c : Thread nD τ).loc main_arg0) :=
  W19_args m ρ c main_arg0 (by decide)
theorem W19_main_arg1 (c : Dev nD) : W19 m ρ c (Proc.devRef .tc main_arg1) = m ((c : Thread nD τ).loc main_arg1) :=
  W19_args m ρ c main_arg1 (by decide)
theorem W19_main_arg2 (c : Dev nD) : W19 m ρ c (Proc.devRef .tc main_arg2) = m ((c : Thread nD τ).loc main_arg2) :=
  W19_args m ρ c main_arg2 (by decide)
theorem W19_main_arg3 (c : Dev nD) : W19 m ρ c (Proc.devRef .tc main_arg3) = m ((c : Thread nD τ).loc main_arg3) :=
  W19_args m ρ c main_arg3 (by decide)
theorem W19_main_arg4 (c : Dev nD) : W19 m ρ c (Proc.devRef .tc main_arg4) = m ((c : Thread nD τ).loc main_arg4) :=
  W19_args m ρ c main_arg4 (by decide)
theorem W19_main_arg5 (c : Dev nD) : W19 m ρ c (Proc.devRef .tc main_arg5) = m ((c : Thread nD τ).loc main_arg5) :=
  W19_args m ρ c main_arg5 (by decide)
theorem W19_main_arg6 (c : Dev nD) : W19 m ρ c (Proc.devRef .tc main_arg6) = m ((c : Thread nD τ).loc main_arg6) :=
  W19_args m ρ c main_arg6 (by decide)

end Cert.KernelIdeal.Run

end
-- ==== Proof.RunIdeal.Segments.lean ====
/- Each region as a segment of the launch, from the contents at its entry to those at its exit. -/
module

public import proofs.«01_k».proof.Proof.RunIdeal.Bounds

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 7) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V15 m ρ) c
  | ⟨6, _⟩ => fun c => dat6 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W19`, the generator register at some state. -/
abbrev Tₙ (c : Dev nD) : sProp 𝕄 := iprop(StableHlo.held (c : Thread nD τ) (Pipeline.ucRefs τ sig) (W19 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 5 (custom_call 5) over the thread state: entered from every unscoped buffer at `W15`, left at `W16`
    (what the next segment is entered from). Its arrays split out of the unscoped buffers
    (`arrays_of_unscopedBufs_shared`) and put back at the exit contents (`unscopedBufs_of_arrays_shared`; its input windows on one array (`launch₀5.sharedIn`) each dealt their share of it, `Pipeline.shareOf`, by the proof data); the generator register into the
    class invariant `ΦA` and out; nothing owed; no semaphore of the kernel's own. -/
def reg5 : Pipeline.RegionSeg (pcfgs (F := F)) adm (pdats m ρ) () defs₀ 𝒱₀ L lv 5 where
  win := launch₀5.win
  block_pos := launch₀5.block_pos
  stage_whole := launch₀5.stage_whole
  K := PEmpty
  osem k := k.elim
  ho := Pipeline.OwnSemFacts.none _
  hbody c := (body_obligation5 (V15 m ρ) c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (V15 m ρ c)
  hentry c := by
    rw [Pipeline.ownSems0_none]
    have hsplit := Pipeline.arrays_of_unscopedBufs_shared (p := 5) (pcfgs (F := F)) adm (pdats m ρ) launch₀5.win launch₀5.sharedIn launch₀5.arr_whole c
      (fun _ _ => rfl) (V15 m ρ c) (A_eq5 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays_shared (p := 5) (pcfgs (F := F)) adm (Ix := Unit) (Name := ℕ) (U := UR sig nD τ) (Lvl := ℕ)
      launch₀5.win launch₀5.sharedIn launch₀5.arr_whole c (pdats m ρ) (fun _ _ => rfl)
      (V15 m ρ c) (V16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 6 (custom_call 6) over the thread state: entered from every unscoped buffer at `W17`, left at `W18`
    (what the next segment is entered from). Its arrays split out of the unscoped buffers
    (`arrays_of_unscopedBufs`) and put back at the exit contents (`unscopedBufs_of_arrays`); the generator register into the
    class invariant `ΦA` and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V17 m ρ) c).loose
  hwaits := Pipeline.hwaits_of_owed_zero _ _ _ _ L lv 6 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec6 c (V17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V17 m ρ c) (A_eq6 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V17 m ρ c) (V18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.RunIdeal.Launch.lean ====
/- The launch: the program is the run of its segments, and what every execution leaves. -/
module

public import proofs.«01_k».proof.Proof.RunIdeal.Segments

@[expose] public section

-- rectangles as long as these arrays' axes are walked coordinate by coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 19 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .host (hseg hostOps5_1 hostOps5_1_sub hostOps5_1_fresh (W11 m ρ)),
    .host (hseg hostOps5_2 hostOps5_2_sub hostOps5_2_fresh (W12 m ρ)),
    .host (hseg hostOps5_3 hostOps5_3_sub hostOps5_3_fresh (W13 m ρ)),
    .host (hseg hostOps5_4 hostOps5_4_sub hostOps5_4_fresh (W14 m ρ)),
    .region (reg5 m ρ),
    .host (hseg hostOps6 hostOps6_sub hostOps6_fresh (W16 m ρ)),
    .region (reg6 m ρ),
    .host (hseg hostOps7 hostOps7_sub hostOps7_fresh (W18 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, at any reading of the floats: from any memory with zero counters every fair execution ends without a
    fault, the result array at the last boundary's contents, the arguments as launched and every counter at zero. -/
theorem main_runs : θ_run defs (onTc (τ := τ) (main (F := F))) ⟨m, fun _ => 0, ρ⟩ (fun r => (∀ c : Dev nD,
      r.2.mem ((c.tc : Thread nD τ).loc main_v22) = W19 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => ⟨(fun c =>
      ⟨h c _ (mem_uc main_v22 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c)⟩), funext fun g => hz g (.inr (no_unscoped g.2))⟩)

end Cert.KernelIdeal.Run

end
-- ==== Proof.Host.lean ====
/- The host stretches between the regions, each read at an index: reshapes, the two weight matrices side by side, and the paddings by
   repeated edge rows. -/
module

public import proofs.«01_k».proof.Proof.Gen.KernelIdeal.Launch
public import Idealize.ShloMosaic.Lib.StableHlo.ReadAt
public import Idealize.ShloMosaic.Lib.Pointwise

@[expose] public section

set_option maxRecDepth 16384

noncomputable section

namespace Cert.KernelIdeal.Stretch

open Cert.KernelIdeal Cert.KernelIdeal.Gen
open Idealize.ShloMosaic Idealize.ShloMosaic.TcCoe

variable (V : Valuation τ sig (Elt Ideal))

/-- The input's rows in fours, as pairs of pairs. -/
theorem v0_at (b : Fin 2) (s : Fin 512) (p q : Fin 2) (k : Fin 1024) :
    (StableHlo.after hostOps0 V (Proc.devRef .tc main_v0) : FVec Ideal ⟨5, ![2, 512, 2, 2, 1024]⟩ .f32) (ix5 b s p q k)
      = (V (Proc.devRef .tc main_arg0) : FVec Ideal ⟨3, ![2, 2048, 1024]⟩ .f32) (ix3 b ⟨s.val * 4 + p.val * 2 + q.val, by omega⟩ k) := by
  after_reads_at

theorem v1_at (u : Fin 1) (k : Fin 1024) :
    (StableHlo.after hostOps0 V (Proc.devRef .tc main_v1) : FVec Ideal ⟨2, ![1, 1024]⟩ .f32) (ix2 u k)
      = (V (Proc.devRef .tc main_arg5) : FVec Ideal ⟨1, ![1024]⟩ .f32) (ix1 k) := by
  after_reads_at

theorem v2_at (u : Fin 1) (k : Fin 1024) :
    (StableHlo.after hostOps0 V (Proc.devRef .tc main_v2) : FVec Ideal ⟨2, ![1, 1024]⟩ .f32) (ix2 u k)
      = (V (Proc.devRef .tc main_arg6) : FVec Ideal ⟨1, ![1024]⟩ .f32) (ix1 k) := by
  after_reads_at

/-- The key and the value weights side by side. -/
theorem v4_at (k : Fin 1024) (n : Fin 2048) :
    (StableHlo.after hostOps1 V (Proc.devRef .tc main_v4) : FVec Ideal ⟨2, ![1024, 2048]⟩ .f32) (ix2 k n)
      = if h : n.val < 1024 then (V (Proc.devRef .tc main_arg2) : FVec Ideal ⟨2, ![1024, 1024]⟩ .f32) (ix2 k ⟨n.val, h⟩)
          else (V (Proc.devRef .tc main_arg3) : FVec Ideal ⟨2, ![1024, 1024]⟩ .f32) (ix2 k ⟨n.val - 1024, by omega⟩) := by
  after_reads_at

theorem v5_at (r : Fin 2048) (k : Fin 1024) :
    (StableHlo.after hostOps1 V (Proc.devRef .tc main_v5) : FVec Ideal ⟨2, ![2048, 1024]⟩ .f32) (ix2 r k)
      = (V (Proc.devRef .tc main_v3_2) : FVec Ideal ⟨4, ![2, 512, 2, 1024]⟩ .f32) (ix4 ⟨r.val / 1024, by omega⟩ ⟨r.val / 2 % 512, by omega⟩ ⟨r.val % 2, by omega⟩ k) := by
  after_reads_at

theorem v7_at (r : Fin 2048) (k : Fin 1024) :
    (StableHlo.after hostOps2 V (Proc.devRef .tc main_v7) : FVec Ideal ⟨2, ![2048, 1024]⟩ .f32) (ix2 r k)
      = (V (Proc.devRef .tc main_v3_0) : FVec Ideal ⟨4, ![2, 512, 2, 1024]⟩ .f32) (ix4 ⟨r.val / 1024, by omega⟩ ⟨r.val / 2 % 512, by omega⟩ ⟨r.val % 2, by omega⟩ k) := by
  after_reads_at

theorem v9_at (b : Fin 2) (r : Fin 1024) (k : Fin 2048) :
    (StableHlo.after hostOps3 V (Proc.devRef .tc main_v9) : FVec Ideal ⟨3, ![2, 1024, 2048]⟩ .f32) (ix3 b r k)
      = (V (Proc.devRef .tc main_v8) : FVec Ideal ⟨2, ![2048, 2048]⟩ .f32) (ix2 ⟨b.val * 1024 + r.val, by omega⟩ k) := by
  after_reads_at

theorem v10_at (r k : Fin 1024) :
    (StableHlo.after hostOps3 V (Proc.devRef .tc main_v10) : FVec Ideal ⟨2, ![1024, 1024]⟩ .f32) (ix2 r k)
      = (V (Proc.devRef .tc main_v3_1) : FVec Ideal ⟨3, ![2, 512, 1024]⟩ .f32) (ix3 ⟨r.val / 512, by omega⟩ ⟨r.val % 512, by omega⟩ k) := by
  after_reads_at

theorem v12_at (b : Fin 2) (r : Fin 512) (k : Fin 2048) :
    (StableHlo.after hostOps4 V (Proc.devRef .tc main_v12) : FVec Ideal ⟨3, ![2, 512, 2048]⟩ .f32) (ix3 b r k)
      = (V (Proc.devRef .tc main_v11) : FVec Ideal ⟨2, ![1024, 2048]⟩ .f32) (ix2 ⟨b.val * 512 + r.val, by omega⟩ k) := by
  after_reads_at

theorem v13_at (r : Fin 4096) (k : Fin 1024) :
    (StableHlo.after hostOps4 V (Proc.devRef .tc main_v13) : FVec Ideal ⟨2, ![4096, 1024]⟩ .f32) (ix2 r k)
      = (V (Proc.devRef .tc main_arg0) : FVec Ideal ⟨3, ![2, 2048, 1024]⟩ .f32) (ix3 ⟨r.val / 2048, by omega⟩ ⟨r.val % 2048, by omega⟩ k) := by
  after_reads_at

theorem v15_at (b : Fin 2) (r k : Fin 2048) :
    (StableHlo.after hostOps5 V (Proc.devRef .tc main_v15) : FVec Ideal ⟨3, ![2, 2048, 2048]⟩ .f32) (ix3 b r k)
      = (V (Proc.devRef .tc main_v14) : FVec Ideal ⟨2, ![4096, 2048]⟩ .f32) (ix2 ⟨b.val * 2048 + r.val, by omega⟩ k) := by
  after_reads_at

theorem v18_at (b : Fin 2) (r k : Fin 1024) :
    (StableHlo.after hostOps5_4 V (Proc.devRef .tc main_v18) : FVec Ideal ⟨3, ![2, 1024, 1024]⟩ .f32) (ix3 b r k)
      = (V (Proc.devRef .tc main_v6) : FVec Ideal ⟨2, ![2048, 1024]⟩ .f32) (ix2 ⟨b.val * 1024 + r.val, by omega⟩ k) := by
  after_reads_at

theorem v20_at (r : Fin 2048) (k : Fin 1024) :
    (StableHlo.after hostOps6 V (Proc.devRef .tc main_v20) : FVec Ideal ⟨2, ![2048, 1024]⟩ .f32) (ix2 r k)
      = (V (Proc.devRef .tc main_v19) : FVec Ideal ⟨3, ![2, 1024, 1024]⟩ .f32) (ix3 ⟨r.val / 1024, by omega⟩ ⟨r.val % 1024, by omega⟩ k) := by
  after_reads_at

theorem v22_at (b : Fin 2) (r k : Fin 1024) :
    (StableHlo.after hostOps7 V (Proc.devRef .tc main_v22) : FVec Ideal ⟨3, ![2, 1024, 1024]⟩ .f32) (ix3 b r k)
      = (V (Proc.devRef .tc main_v21) : FVec Ideal ⟨2, ![2048, 1024]⟩ .f32) (ix2 ⟨b.val * 1024 + r.val, by omega⟩ k) := by
  after_reads_at

/-- Padding by no rows in front and behind changes nothing. -/
theorem call0_v6_7 {U : Valuation τ sig (Elt Ideal)} (hU : U = StableHlo.upto hostOps5_1 V 6) (b : Fin 2) (r : Fin 1024) (k : Fin 2048) :
    (StableHlo.upto hostOps5_1 V 7 (Proc.devRef .tc main_call0_v6) : FVec Ideal ⟨3, ![2, 1024, 2048]⟩ .f32) (ix3 b r k)
      = (U (Proc.devRef .tc main_v9) : FVec Ideal ⟨3, ![2, 1024, 2048]⟩ .f32) (ix3 b r k) := by
  after_reads_at
  rw [← hU]
  exact dif_neg (Nat.not_lt_zero _)

/-- Padding by no rows in front and behind changes nothing. -/
theorem call0_v6_13 {U : Valuation τ sig (Elt Ideal)} (hU : U = StableHlo.upto hostOps5_1 V 6) (b : Fin 2) (r : Fin 1024) (k : Fin 2048) :
    (StableHlo.upto hostOps5_1 V 13 (Proc.devRef .tc main_call0_v6) : FVec Ideal ⟨3, ![2, 1024, 2048]⟩ .f32) (ix3 b r k)
      = (U (Proc.devRef .tc main_v9) : FVec Ideal ⟨3, ![2, 1024, 2048]⟩ .f32) (ix3 b r k) := by
  after_reads_at
  rw [← hU]
  exact dif_neg (Nat.not_lt_zero _)

/-- The first row, repeated. -/
theorem call0_v9 {U : Valuation τ sig (Elt Ideal)} (hU : U = StableHlo.upto hostOps5_1 V 6) (b : Fin 2) (r : Fin 6) (k : Fin 2048) :
    (StableHlo.upto hostOps5_1 V 13 (Proc.devRef .tc main_call0_v9) : FVec Ideal ⟨3, ![2, 6, 2048]⟩ .f32) (ix3 b r k)
      = (U (Proc.devRef .tc main_v9) : FVec Ideal ⟨3, ![2, 1024, 2048]⟩ .f32) (ix3 b 0 k) := by
  after_reads_at
  rw [← hU]
  exact dif_neg (Nat.not_lt_zero _)

/-- The last row, repeated. -/
theorem call0_v12 {U : Valuation τ sig (Elt Ideal)} (hU : U = StableHlo.upto hostOps5_1 V 6) (b : Fin 2) (r : Fin 6) (k : Fin 2048) :
    (StableHlo.upto hostOps5_1 V 13 (Proc.devRef .tc main_call0_v12) : FVec Ideal ⟨3, ![2, 6, 2048]⟩ .f32) (ix3 b r k)
      = (U (Proc.devRef .tc main_v9) : FVec Ideal ⟨3, ![2, 1024, 2048]⟩ .f32) (ix3 b 1023 k) := by
  after_reads_at
  rw [← hU]
  exact dif_neg (Nat.not_lt_zero _)

theorem call0_v13 {U : Valuation τ sig (Elt Ideal)} (hU : U = StableHlo.upto hostOps5_1 V 13) (b : Fin 2) (r : Fin 1036) (k : Fin 2048) :
    (StableHlo.upto hostOps5_1 V 20 (Proc.devRef .tc main_call0_v13) : FVec Ideal ⟨3, ![2, 1036, 2048]⟩ .f32) (ix3 b r k)
      = if h : r.val < 6 then (U (Proc.devRef .tc main_call0_v9) : FVec Ideal ⟨3, ![2, 6, 2048]⟩ .f32) (ix3 b ⟨r.val, h⟩ k)
          else if h : r.val - 6 < 1024 then (U (Proc.devRef .tc main_call0_v6) : FVec Ideal ⟨3, ![2, 1024, 2048]⟩ .f32) (ix3 b ⟨r.val - 6, h⟩ k)
          else (U (Proc.devRef .tc main_call0_v12) : FVec Ideal ⟨3, ![2, 6, 2048]⟩ .f32) (ix3 b ⟨r.val - 6 - 1024, by omega⟩ k) := by
  after_reads_at
  rw [← hU]
  rfl

theorem v16_last {U : Valuation τ sig (Elt Ideal)} (hU : U = StableHlo.upto hostOps5_1 V 20) (b : Fin 2) (r : Fin 1036) (k : Fin 2048) :
    (StableHlo.after hostOps5_1 V (Proc.devRef .tc main_v16) : FVec Ideal ⟨3, ![2, 1036, 2048]⟩ .f32) (ix3 b r k)
      = (U (Proc.devRef .tc main_call0_v13) : FVec Ideal ⟨3, ![2, 1036, 2048]⟩ .f32) (ix3 b r k) := by
  after_reads_at
  rw [← hU]
  exact dif_neg (Nat.not_lt_zero _)

theorem call0_src : StableHlo.upto hostOps5_1 V 6 (Proc.devRef .tc main_v9) = V (Proc.devRef .tc main_v9) := by
  after_reads_simp

/-- The array with its first and last rows repeated. -/
theorem v16_at (b : Fin 2) (r : Fin 1036) (k : Fin 2048) :
    (StableHlo.after hostOps5_1 V (Proc.devRef .tc main_v16) : FVec Ideal ⟨3, ![2, 1036, 2048]⟩ .f32) (ix3 b r k)
      = (V (Proc.devRef .tc main_v9) : FVec Ideal ⟨3, ![2, 1024, 2048]⟩ .f32) (ix3 b ⟨min (r.val - 6) 1023, by omega⟩ k) := by
  rw [v16_last V rfl, call0_v13 V rfl]
  split
  · next h =>
    refine (call0_v9 V rfl b _ k).trans ?_
    rw [call0_src]
    exact congrArg (fun r => (V (Proc.devRef .tc main_v9) : FVec Ideal ⟨3, ![2, 1024, 2048]⟩ .f32) (ix3 b r k)) (Fin.ext (by show (0 : ℕ) = min (r.val - 6) 1023; omega))
  · split
    · next h h' =>
      refine (call0_v6_13 V rfl b _ k).trans ?_
      rw [call0_src]
      exact congrArg (fun r => (V (Proc.devRef .tc main_v9) : FVec Ideal ⟨3, ![2, 1024, 2048]⟩ .f32) (ix3 b r k)) (Fin.ext (by show r.val - 6 = min (r.val - 6) 1023; omega))
    · next h h' =>
      refine (call0_v12 V rfl b _ k).trans ?_
      rw [call0_src]
      exact congrArg (fun r => (V (Proc.devRef .tc main_v9) : FVec Ideal ⟨3, ![2, 1024, 2048]⟩ .f32) (ix3 b r k)) (Fin.ext (by show (1023 : ℕ) = min (r.val - 6) 1023; omega))

/-- Padding by no rows in front and behind changes nothing. -/
theorem call1_v6_7 {U : Valuation τ sig (Elt Ideal)} (hU : U = StableHlo.upto hostOps5_3 V 6) (b : Fin 2) (r : Fin 512) (k : Fin 2048) :
    (StableHlo.upto hostOps5_3 V 7 (Proc.devRef .tc main_call1_v6) : FVec Ideal ⟨3, ![2, 512, 2048]⟩ .f32) (ix3 b r k)
      = (U (Proc.devRef .tc main_v12) : FVec Ideal ⟨3, ![2, 512, 2048]⟩ .f32) (ix3 b r k) := by
  after_reads_at
  rw [← hU]
  exact dif_neg (Nat.not_lt_zero _)

/-- Padding by no rows in front and behind changes nothing. -/
theorem call1_v6_13 {U : Valuation τ sig (Elt Ideal)} (hU : U = StableHlo.upto hostOps5_3 V 6) (b : Fin 2) (r : Fin 512) (k : Fin 2048) :
    (StableHlo.upto hostOps5_3 V 13 (Proc.devRef .tc main_call1_v6) : FVec Ideal ⟨3, ![2, 512, 2048]⟩ .f32) (ix3 b r k)
      = (U (Proc.devRef .tc main_v12) : FVec Ideal ⟨3, ![2, 512, 2048]⟩ .f32) (ix3 b r k) := by
  after_reads_at
  rw [← hU]
  exact dif_neg (Nat.not_lt_zero _)

/-- The first row, repeated. -/
theorem call1_v9 {U : Valuation τ sig (Elt Ideal)} (hU : U = StableHlo.upto hostOps5_3 V 6) (b : Fin 2) (r : Fin 1) (k : Fin 2048) :
    (StableHlo.upto hostOps5_3 V 13 (Proc.devRef .tc main_call1_v9) : FVec Ideal ⟨3, ![2, 1, 2048]⟩ .f32) (ix3 b r k)
      = (U (Proc.devRef .tc main_v12) : FVec Ideal ⟨3, ![2, 512, 2048]⟩ .f32) (ix3 b 0 k) := by
  after_reads_at
  rw [← hU]
  exact dif_neg (Nat.not_lt_zero _)

/-- The last row, repeated. -/
theorem call1_v12 {U : Valuation τ sig (Elt Ideal)} (hU : U = StableHlo.upto hostOps5_3 V 6) (b : Fin 2) (r : Fin 1) (k : Fin 2048) :
    (StableHlo.upto hostOps5_3 V 13 (Proc.devRef .tc main_call1_v12) : FVec Ideal ⟨3, ![2, 1, 2048]⟩ .f32) (ix3 b r k)
      = (U (Proc.devRef .tc main_v12) : FVec Ideal ⟨3, ![2, 512, 2048]⟩ .f32) (ix3 b 511 k) := by
  after_reads_at
  rw [← hU]
  exact dif_neg (Nat.not_lt_zero _)

theorem call1_v13 {U : Valuation τ sig (Elt Ideal)} (hU : U = StableHlo.upto hostOps5_3 V 13) (b : Fin 2) (r : Fin 514) (k : Fin 2048) :
    (StableHlo.upto hostOps5_3 V 20 (Proc.devRef .tc main_call1_v13) : FVec Ideal ⟨3, ![2, 514, 2048]⟩ .f32) (ix3 b r k)
      = if h : r.val < 1 then (U (Proc.devRef .tc main_call1_v9) : FVec Ideal ⟨3, ![2, 1, 2048]⟩ .f32) (ix3 b ⟨r.val, h⟩ k)
          else if h : r.val - 1 < 512 then (U (Proc.devRef .tc main_call1_v6) : FVec Ideal ⟨3, ![2, 512, 2048]⟩ .f32) (ix3 b ⟨r.val - 1, h⟩ k)
          else (U (Proc.devRef .tc main_call1_v12) : FVec Ideal ⟨3, ![2, 1, 2048]⟩ .f32) (ix3 b ⟨r.val - 1 - 512, by omega⟩ k) := by
  after_reads_at
  rw [← hU]
  rfl

theorem v17_last {U : Valuation τ sig (Elt Ideal)} (hU : U = StableHlo.upto hostOps5_3 V 20) (b : Fin 2) (r : Fin 514) (k : Fin 2048) :
    (StableHlo.after hostOps5_3 V (Proc.devRef .tc main_v17) : FVec Ideal ⟨3, ![2, 514, 2048]⟩ .f32) (ix3 b r k)
      = (U (Proc.devRef .tc main_call1_v13) : FVec Ideal ⟨3, ![2, 514, 2048]⟩ .f32) (ix3 b r k) := by
  after_reads_at
  rw [← hU]
  exact dif_neg (Nat.not_lt_zero _)

theorem call1_src : StableHlo.upto hostOps5_3 V 6 (Proc.devRef .tc main_v12) = V (Proc.devRef .tc main_v12) := by
  after_reads_simp

/-- The array with its first and last rows repeated. -/
theorem v17_at (b : Fin 2) (r : Fin 514) (k : Fin 2048) :
    (StableHlo.after hostOps5_3 V (Proc.devRef .tc main_v17) : FVec Ideal ⟨3, ![2, 514, 2048]⟩ .f32) (ix3 b r k)
      = (V (Proc.devRef .tc main_v12) : FVec Ideal ⟨3, ![2, 512, 2048]⟩ .f32) (ix3 b ⟨min (r.val - 1) 511, by omega⟩ k) := by
  rw [v17_last V rfl, call1_v13 V rfl]
  split
  · next h =>
    refine (call1_v9 V rfl b _ k).trans ?_
    rw [call1_src]
    exact congrArg (fun r => (V (Proc.devRef .tc main_v12) : FVec Ideal ⟨3, ![2, 512, 2048]⟩ .f32) (ix3 b r k)) (Fin.ext (by show (0 : ℕ) = min (r.val - 1) 511; omega))
  · split
    · next h h' =>
      refine (call1_v6_13 V rfl b _ k).trans ?_
      rw [call1_src]
      exact congrArg (fun r => (V (Proc.devRef .tc main_v12) : FVec Ideal ⟨3, ![2, 512, 2048]⟩ .f32) (ix3 b r k)) (Fin.ext (by show r.val - 1 = min (r.val - 1) 511; omega))
    · next h h' =>
      refine (call1_v12 V rfl b _ k).trans ?_
      rw [call1_src]
      exact congrArg (fun r => (V (Proc.devRef .tc main_v12) : FVec Ideal ⟨3, ![2, 512, 2048]⟩ .f32) (ix3 b r k)) (Fin.ext (by show (511 : ℕ) = min (r.val - 1) 511; omega))

end Cert.KernelIdeal.Stretch
-- ==== Proof.Attn.lean ====
/- One query's attention over its eighteen candidates, in the two forms the programs use: dropping the two candidates
   that come last in the order of the scores, and sorting the scores and keeping the first sixteen. Both give one sum. -/
module

public import Idealize.ShloMosaic.Lib.SortFacts
public import Idealize.ShloMosaic.Lib.SortNet.Extract
public import Idealize.ShloMosaic.PureOps.Ideal
public import Idealize.ShloMosaic.PureOps.Ideal.Laws

@[expose] public section

noncomputable section

namespace Cert.Attn

open Idealize.ShloMosaic

/-! ## The order of the candidates -/

/-- Candidate `k` comes ahead of `k'`: its score is greater, or the scores are equal and its number is smaller. -/
def Ahead (s : Fin 18 → EReal) (k k' : Fin 18) : Prop := s k' < s k ∨ (s k = s k' ∧ k < k')

/-- The place-to-candidate map of the stable descending sort of the scores. -/
def order (s : Fin 18 → EReal) : Fin 18 → Fin 18 := sortedFrom fun k k' => Ideal.cmp .ogt (s k) (s k') == 1#1

theorem ofBool_beq_one (b : Bool) : (BitVec.ofBool b == 1#1) = b := by cases b <;> rfl

theorem gt_beq (a b : EReal) : (Ideal.cmp .ogt a b == 1#1) = decide (b < a) := ofBool_beq_one _

/-- A stable insertion sort of an ascending list only compares a later entry with an earlier one. -/
theorem stableSort_congr_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- So two comparisons that agree where a later entry is compared with an earlier one sort alike. -/
theorem sortedFrom_congr_later {n : ℕ} (R R' : Fin n → Fin n → Bool) (h : ∀ a b, a < b → R b a = R' b a) :
    sortedFrom R = sortedFrom R' := by
  have hp : sortPositions n R = sortPositions n R' := stableSort_congr_later _ _ _ (List.pairwise_lt_finRange n) h
  have e : ∀ (l l' : List (Fin n)) (hl : l.length = n) (hl' : l'.length = n) (k : Fin n), l = l' →
      l.get (k.cast hl.symm) = l'.get (k.cast hl'.symm) := by
    rintro l _ hl hl' k rfl; rfl
  funext k
  exact e _ _ (length_sortPositions _ _) (length_sortPositions _ _) k hp

open Classical in
theorem order_eq (s : Fin 18 → EReal) : order s = sortedFrom fun k k' => decide (Ahead s k k') :=
  sortedFrom_congr_later _ _ fun a b hab => by
    rw [gt_beq]
    exact decide_eq_decide.mpr ⟨Or.inl, fun h => h.resolve_right fun e => absurd e.2 (not_lt.mpr hab.le)⟩

theorem ahead_total (s : Fin 18 → EReal) {k k' : Fin 18} (hne : k ≠ k') (h : ¬ Ahead s k' k) : Ahead s k k' := by
  unfold Ahead at *
  push Not at h
  rcases lt_or_eq_of_le h.1 with h1 | h1
  · exact Or.inl h1
  · exact Or.inr ⟨h1.symm, lt_of_le_of_ne (h.2 h1) hne⟩

theorem ahead_asymm (s : Fin 18 → EReal) {k k' : Fin 18} (h : Ahead s k k') : ¬ Ahead s k' k := by
  unfold Ahead at *
  rintro (h2 | h2) <;> rcases h with h1 | h1
  · exact lt_asymm h1 h2
  · exact absurd h1.1 h2.ne
  · exact absurd h2.1 h1.ne
  · exact lt_asymm h1.2 h2.2

theorem ahead_trans (s : Fin 18 → EReal) {a b c : Fin 18} (h : Ahead s a b) (h' : Ahead s b c) : Ahead s a c := by
  unfold Ahead at *
  rcases h with h1 | h1 <;> rcases h' with h2 | h2
  · exact Or.inl (h2.trans h1)
  · exact Or.inl (h2.1 ▸ h1)
  · exact Or.inl (h1.1.symm ▸ h2)
  · exact Or.inr ⟨h1.1.trans h2.1, h1.2.trans h2.2⟩

theorem order_bijective (s : Fin 18 → EReal) : Function.Bijective (order s) :=
  ⟨sortedFrom_injective _, sortedFrom_surjective _⟩

/-- Along the sorted places the candidates come in order. -/
theorem order_ahead (s : Fin 18 → EReal) {i j : Fin 18} (hij : i < j) : Ahead s (order s i) (order s j) := by
  classical
  have h := sortedFrom_noInversion (fun k k' => decide (Ahead s k k')) (fun k k' => decide (Ahead s k k'))
    (fun a b h => by simpa using ahead_asymm s (by simpa using h)) (fun a b h => h)
    (fun a b c h1 h2 => by
      simp only [decide_eq_false_iff_not] at h1 h2 ⊢
      intro h3
      by_cases hab : a = b
      · subst hab; exact h2 h3
      · by_cases hbc : b = c
        · subst hbc; exact h1 h3
        · exact ahead_asymm s (ahead_trans s (ahead_total s (Ne.symm hbc) h2) (ahead_total s (Ne.symm hab) h1)) h3) i j hij
  rw [← order_eq] at h
  exact ahead_total s (fun e => absurd ((order_bijective s).1 e) hij.ne) (by simpa using h)

attribute [irreducible] order

/-! ## The dropping form -/

/-- The number, as a word, of the last candidate holding the least score. -/
def lastWord (s : Fin 18 → EReal) : BitVec 32 :=
  Finset.univ.fold IntOp.maxsi 2147483648#32 fun j : Fin 18 =>
    Scalar.select (Ideal.cmp .oeq (s j) (Finset.univ.fold min ⊤ s)) (BitVec.ofNat 32 j.val) 4294967295#32

/-- Whether candidate `j` is the one `lastWord` names. -/
def isLast (s : Fin 18 → EReal) (j : Fin 18) : BitVec 1 := IntOp.cmpi .eq (BitVec.ofNat 32 j.val) (lastWord s)

/-- The scores with the last candidate's raised to the top. -/
def raised (s : Fin 18 → EReal) (j : Fin 18) : EReal := Scalar.select (isLast s j) ⊤ (s j)

/-- Which candidates are kept: neither the last one nor the last of the others. -/
def keep (s : Fin 18 → EReal) (j : Fin 18) : BitVec 1 := IntOp.xori (IntOp.ori (isLast s j) (isLast (raised s) j)) 1#1

/-- The kept candidates' exponentials, zero at the dropped ones. -/
def expKept (s : Fin 18 → EReal) (j : Fin 18) : EReal :=
  Scalar.select (keep s j) (Ideal.exp (s j - Finset.univ.fold max ⊥ s)) 0

/-- A candidate's weight. -/
def weight (s : Fin 18 → EReal) (j : Fin 18) : EReal := Ideal.div (expKept s j) (∑ k, expKept s k)

/-! ## The sorting form -/

/-- The candidate at one of the first sixteen places. -/
def top (s : Fin 18 → EReal) (r : Fin 16) : Fin 18 := order s (r.castLE (by decide))

/-- The exponential of the score at a place, the greatest kept score taken off. -/
def expTop (s : Fin 18 → EReal) (r : Fin 16) : EReal :=
  Ideal.exp (s (top s r) - Finset.univ.fold max ⊥ fun r : Fin 16 => s (top s r))

/-- The softmax weight of a place. -/
def weightTop (s : Fin 18 → EReal) (r : Fin 16) : EReal := Ideal.div (expTop s r) (∑ k, expTop s k)

/-! ## They are equal -/

theorem fold_min_eq (s : Fin 18 → EReal) (i : Fin 18) (h : ∀ k, s i ≤ s k) : Finset.univ.fold min ⊤ s = s i := by
  apply le_antisymm
  · exact (Finset.fold_min_le _).mpr (Or.inr ⟨i, Finset.mem_univ _, le_refl _⟩)
  · exact (Finset.le_fold_min _).mpr ⟨le_top, fun k _ => h k⟩

theorem fold_max_eq {n : ℕ} (s : Fin n → EReal) (i : Fin n) (h : ∀ k, s k ≤ s i) : Finset.univ.fold max ⊥ s = s i := by
  apply le_antisymm
  · exact (Finset.fold_max_le _).mpr ⟨bot_le, fun k _ => h k⟩
  · exact (Finset.le_fold_max _).mpr (Or.inr ⟨i, Finset.mem_univ _, le_refl _⟩)

theorem toInt_ofNat_small (j : Fin 18) : (BitVec.ofNat 32 j.val).toInt = (j.val : ℤ) := by
  revert j; decide

/-- `lastWord` is the number of the last candidate whose score is least. -/
theorem lastWord_eq (s : Fin 18 → EReal) (i : Fin 18) (hi : ∀ k, s i ≤ s k) (hl : ∀ k, s k = s i → k ≤ i) :
    lastWord s = BitVec.ofNat 32 i.val := by
  unfold lastWord
  rw [fold_min_eq s i hi]
  set g : Fin 18 → BitVec 32 := fun j => Scalar.select (Ideal.cmp .oeq (s j) (s i)) (BitVec.ofNat 32 j.val) 4294967295#32 with hg
  obtain ⟨h1, h2, h3⟩ := SortNet.fold_maxsi_spec g Finset.univ (2147483648#32)
  have hgi : g i = BitVec.ofNat 32 i.val := by simp [hg, Ideal.cmp, Scalar.select]
  have hgk : ∀ k, (g k).toInt ≤ (i.val : ℤ) := by
    intro k
    by_cases hk : s k = s i
    · have : g k = BitVec.ofNat 32 k.val := by simp [hg, Ideal.cmp, Scalar.select, hk]
      rw [this, toInt_ofNat_small]
      exact_mod_cast hl k hk
    · have : g k = 4294967295#32 := by simp [hg, Ideal.cmp, Scalar.select, hk]
      rw [this]
      have : (4294967295#32 : BitVec 32).toInt = -1 := by decide
      rw [this]; omega
  apply BitVec.eq_of_toInt_eq
  have hlo := h2 i (Finset.mem_univ _)
  rw [hgi, toInt_ofNat_small] at hlo
  rw [toInt_ofNat_small]
  refine le_antisymm ?_ hlo
  rcases h3 with h3 | ⟨k, -, h3⟩
  · rw [h3]
    have : (2147483648#32 : BitVec 32).toInt = -2147483648 := by decide
    rw [this]; omega
  · rw [h3]; exact hgk k

theorem isLast_eq (s : Fin 18 → EReal) (i : Fin 18) (hi : ∀ k, s i ≤ s k) (hl : ∀ k, s k = s i → k ≤ i) (j : Fin 18) :
    isLast s j = if j = i then 1#1 else 0#1 := by
  unfold isLast
  rw [lastWord_eq s i hi hl]
  exact (by decide : ∀ j i : Fin 18, IntOp.cmpi .eq (BitVec.ofNat 32 j.val) (BitVec.ofNat 32 i.val) = if j = i then 1#1 else 0#1) j i

section Main

variable (s : Fin 18 → EReal) (hs : ∀ j, s j ≠ ⊤ ∧ s j ≠ ⊥)

theorem ahead_last {k : Fin 18} (h : k ≠ order s 17) : Ahead s k (order s 17) := by
  obtain ⟨p, rfl⟩ := (order_bijective s).2 k
  exact order_ahead s (lt_of_le_of_ne (Fin.le_last p) fun e => h (congrArg (order s) e))

theorem ahead_second {k : Fin 18} (h : k ≠ order s 17) (h' : k ≠ order s 16) : Ahead s k (order s 16) := by
  obtain ⟨p, rfl⟩ := (order_bijective s).2 k
  refine order_ahead s ?_
  have h1 : p ≠ 17 := fun e => h (by rw [e])
  have h2 : p ≠ 16 := fun e => h' (by rw [e])
  exact (by decide : ∀ p : Fin 18, p ≠ 17 → p ≠ 16 → p < 16) p h1 h2

theorem isLast_order (j : Fin 18) : isLast s j = if j = order s 17 then 1#1 else 0#1 := by
  refine isLast_eq s _ (fun k => ?_) (fun k hk => ?_) j
  · by_cases h : k = order s 17
    · rw [h]
    · rcases ahead_last s h with h1 | h1
      · exact h1.le
      · exact h1.1.ge
  · by_cases h : k = order s 17
    · rw [h]
    · rcases ahead_last s h with h1 | h1
      · exact absurd hk h1.ne'
      · exact h1.2.le

theorem raised_eq (j : Fin 18) : raised s j = if j = order s 17 then ⊤ else s j := by
  unfold raised
  rw [isLast_order]
  split <;> simp [Scalar.select]

include hs

theorem isLast_raised (j : Fin 18) : isLast (raised s) j = if j = order s 16 then 1#1 else 0#1 := by
  have hne : order s 16 ≠ order s 17 := fun e => absurd ((order_bijective s).1 e) (by decide)
  refine isLast_eq (raised s) _ (fun k => ?_) (fun k hk => ?_) j
  · rw [raised_eq, raised_eq, if_neg hne]
    split
    · exact le_top
    · rename_i h
      by_cases h' : k = order s 16
      · rw [h']
      · rcases ahead_second s h h' with h1 | h1
        · exact h1.le
        · exact h1.1.ge
  · rw [raised_eq, raised_eq, if_neg hne] at hk
    split at hk
    · exact absurd hk.symm (hs _).1
    · rename_i h
      by_cases h' : k = order s 16
      · rw [h']
      · rcases ahead_second s h h' with h1 | h1
        · exact absurd hk h1.ne'
        · exact h1.2.le

theorem keep_eq (j : Fin 18) : keep s j = if j = order s 17 ∨ j = order s 16 then 0#1 else 1#1 := by
  unfold keep
  rw [isLast_order, isLast_raised s hs]
  by_cases h1 : j = order s 17
  · rw [if_pos h1, if_pos (Or.inl h1)]; split <;> rfl
  · by_cases h2 : j = order s 16
    · rw [if_neg h1, if_pos h2, if_pos (Or.inr h2)]; rfl
    · rw [if_neg h1, if_neg h2, if_neg (not_or.mpr ⟨h1, h2⟩)]; rfl

omit hs in
theorem max_top (k : Fin 18) : s k ≤ s (top s 0) := by
  obtain ⟨p, rfl⟩ := (order_bijective s).2 k
  by_cases h : p = 0
  · subst h; exact le_refl _
  · rcases order_ahead s (Fin.pos_of_ne_zero h) with h1 | h1
    · exact h1.le
    · exact h1.1.ge

/-- At a place among the first sixteen the two exponentials agree. -/
theorem expKept_top (r : Fin 16) : expKept s (top s r) = expTop s r := by
  have h1 : top s r ≠ order s 17 := fun e =>
    absurd (congrArg Fin.val ((order_bijective s).1 e)) (Nat.ne_of_lt (r.isLt.trans (by decide)))
  have h2 : top s r ≠ order s 16 := fun e =>
    absurd (congrArg Fin.val ((order_bijective s).1 e)) (Nat.ne_of_lt r.isLt)
  have hk : keep s (top s r) = 1#1 := by rw [keep_eq s hs, if_neg (not_or.mpr ⟨h1, h2⟩)]
  have e1 : Finset.univ.fold max ⊥ s = s (top s 0) := fold_max_eq s (top s 0) (max_top s)
  have e2 : (Finset.univ.fold max ⊥ fun r : Fin 16 => s (top s r)) = s (top s 0) :=
    fold_max_eq (fun r : Fin 16 => s (top s r)) 0 (fun k => max_top s _)
  unfold expKept expTop
  rw [hk, e1, e2]
  rfl

theorem expKept_dropped {j : Fin 18} (h : j = order s 17 ∨ j = order s 16) : expKept s j = 0 := by
  unfold expKept
  rw [keep_eq s hs, if_pos h]
  simp [Scalar.select]

omit hs in
/-- A sum over the candidates, taken in sorted order. -/
theorem sum_order (f : Fin 18 → EReal) : ∑ j, f j = (∑ r : Fin 16, f (top s r)) + f (order s 16) + f (order s 17) := by
  rw [← (order_bijective s).sum_comp f, Fin.sum_univ_castSucc, Fin.sum_univ_castSucc]
  rfl

theorem sum_expKept : ∑ j, expKept s j = ∑ r, expTop s r := by
  rw [sum_order s, expKept_dropped s hs (Or.inr rfl), expKept_dropped s hs (Or.inl rfl), add_zero, add_zero]
  exact Finset.sum_congr rfl fun r _ => expKept_top s hs r

omit hs in
theorem exp_nonneg (x : EReal) : 0 ≤ Ideal.exp x := by
  induction x with
  | bot => exact le_refl _
  | top => exact le_top
  | coe r => exact EReal.coe_nonneg.mpr (Real.exp_pos r).le

theorem sum_expTop_ne : ∑ r, expTop s r ≠ 0 := by
  have h0 : expTop s 0 = 1 := by
    unfold expTop
    rw [fold_max_eq (fun r : Fin 16 => s (top s r)) 0 (fun k => max_top s _)]
    obtain ⟨h1, h2⟩ := hs (top s 0)
    lift s (top s 0) to ℝ using ⟨h1, h2⟩ with a
    rw [← EReal.coe_sub, sub_self]
    show ((Real.exp 0 : ℝ) : EReal) = 1
    rw [Real.exp_zero]; rfl
  have h : (1 : EReal) ≤ ∑ r, expTop s r := by
    rw [← h0]
    exact Finset.single_le_sum (f := expTop s) (fun r _ => exp_nonneg _) (Finset.mem_univ 0)
  exact (lt_of_lt_of_le zero_lt_one h).ne'

/-- THE SELECTION: dropping the two last candidates and sorting out the first sixteen weigh any values alike. -/
theorem attend_eq (V : Fin 18 → EReal) : ∑ j, weight s j * V j = ∑ r, weightTop s r * V (top s r) := by
  have hz : ∀ {j : Fin 18}, (j = order s 17 ∨ j = order s 16) → weight s j * V j = 0 := fun h => by
    unfold weight
    rw [expKept_dropped s hs h, sum_expKept s hs]
    simp [Ideal.div, sum_expTop_ne s hs]
  rw [sum_order s, hz (Or.inr rfl), hz (Or.inl rfl), add_zero, add_zero]
  refine Finset.sum_congr rfl fun r _ => ?_
  unfold weight weightTop
  rw [expKept_top s hs, sum_expKept s hs]

end Main

end Cert.Attn
-- ==== Proof.Spec.lean ====
/- The mathematics that the kernel and the reference share, over the extended reals and plain row and column numbers: the pooled
   rows, the normalised query rows, the eighteen candidates of a query row, their scores, and the projected attention. -/
module

public import proofs.«01_k».proof.Proof.Attn
public import Idealize.ShloMosaic.Lib.Pointwise

@[expose] public section

noncomputable section

namespace Cert.Spec

open Idealize.ShloMosaic
open scoped BigOperators

/-- A batch of two, 2048 rows of 1024 columns. -/
abbrev Rows := FVec Ideal ⟨3, ![2, 2048, 1024]⟩ .f32
/-- A matrix of weights. -/
abbrev Weights := FVec Ideal ⟨2, ![1024, 1024]⟩ .f32
/-- A scale or a shift of a row. -/
abbrev Line := FVec Ideal ⟨1, ![1024]⟩ .f32

variable (x : Rows) (Wq Wk Wv Wp : Weights) (g s : Line)

/-- Row `l` of batch `b`, at full length. -/
def p0 (b : Fin 2) (l : Fin 2048) (k : Fin 1024) : EReal := x (ix3 b l k)

/-- Row `l` of batch `b` at half the length: the larger of two neighbours. -/
def p1 (b : Fin 2) (l : Fin 1024) (k : Fin 1024) : EReal :=
  max (p0 x b ⟨2 * l.val, by omega⟩ k) (p0 x b ⟨2 * l.val + 1, by omega⟩ k)

/-- Row `l` of batch `b` at a quarter of the length. -/
def p2 (b : Fin 2) (l : Fin 512) (k : Fin 1024) : EReal :=
  max (p1 x b ⟨2 * l.val, by omega⟩ k) (p1 x b ⟨2 * l.val + 1, by omega⟩ k)

/-- The number of columns. -/
def count : EReal := Ideal.ofBits .f32 0x44800000#32

/-- The small number added to a variance. -/
def small : EReal := Ideal.ofBits .f32 0x3727C5AC#32

/-- The mean of a row. -/
def mean (r : Fin 1024 → EReal) : EReal := Ideal.div (∑ k, r k) count

/-- The variance of a row with the small number added. -/
def spread (r : Fin 1024 → EReal) : EReal := Ideal.div (∑ k, (r k - mean r) * (r k - mean r)) count + small

/-- A row normalised, divided by the square root of its spread. -/
def norm (r : Fin 1024 → EReal) (k : Fin 1024) : EReal :=
  Ideal.div (r k - mean r) (Ideal.sqrt (spread r)) * g (ix1 k) + s (ix1 k)

/-- A row normalised, multiplied by the inverse square root of its spread. -/
def normBy (r : Fin 1024 → EReal) (k : Fin 1024) : EReal :=
  (r k - mean r) * Ideal.rsqrt (spread r) * g (ix1 k) + s (ix1 k)

/-- A row times a matrix. -/
def times (r : Fin 1024 → EReal) (W : Weights) (n : Fin 1024) : EReal := ∑ k, r k * W (ix2 k n)

/-- Column `d` of head `h`. -/
def col (h : Fin 16) (d : Fin 64) : Fin 1024 := ⟨64 * h.val + d.val, by omega⟩

/-- The row of half the length that is `j - 6` places from row `l`, held between the first and the last. -/
def near (l : Fin 1024) (j : Fin 13) : Fin 1024 := ⟨min (l.val + j.val - 6) 1023, by omega⟩

/-- The rows of a quarter of the length around the one that row `l` is pooled into: that one, the one before and the one after. -/
def above (l : Fin 1024) (j : Fin 3) : Fin 512 :=
  ⟨if j.val = 0 then l.val / 2 else if j.val = 1 then l.val / 2 - 1 else min (l.val / 2 + 1) 511, by split <;> [skip; split] <;> omega⟩

/-- The two rows of full length that row `l` is pooled from. -/
def below (l : Fin 1024) (j : Fin 2) : Fin 2048 := ⟨2 * l.val + j.val, by omega⟩

/-- Candidate `j` of row `l`: thirteen rows near it, three above it and two below it. -/
def cand (b : Fin 2) (l : Fin 1024) (j : Fin 18) : Fin 1024 → EReal :=
  if h : j.val < 13 then p1 x b (near l ⟨j.val, h⟩)
  else if h' : j.val < 16 then p2 x b (above l ⟨j.val - 13, by omega⟩)
  else p0 x b (below l ⟨j.val - 16, by omega⟩)

/-- Column `n` of the query row `l`. -/
def query (b : Fin 2) (l : Fin 1024) (n : Fin 1024) : EReal := times (norm g s (p1 x b l)) Wq n

/-- The product of a query and a candidate's key over the columns of head `h`. -/
def dot (b : Fin 2) (h : Fin 16) (l : Fin 1024) (j : Fin 18) : EReal :=
  ∑ d : Fin 64, query x Wq g s b l (col h d) * times (cand x b l j) Wk (col h d)

/-- The score of candidate `j` of row `l` at head `h`: an eighth of the product. -/
def score (b : Fin 2) (h : Fin 16) (l : Fin 1024) (j : Fin 18) : EReal :=
  Ideal.div (dot x Wq Wk g s b h l j) (Ideal.ofBits .f32 0x41000000#32)

/-- The head of a column. -/
def head (n : Fin 1024) : Fin 16 := ⟨n.val / 64, by omega⟩

/-- Column `n` of the attention of row `l`: the values of the best sixteen candidates, weighted. -/
def attend (b : Fin 2) (l : Fin 1024) (n : Fin 1024) : EReal :=
  ∑ r : Fin 16, Attn.weightTop (score x Wq Wk g s b (head n) l) r
    * times (cand x b l (Attn.top (score x Wq Wk g s b (head n) l) r)) Wv n

/-- The same as a sum over all eighteen candidates, the two that drop out at weight zero. -/
def attendAll (b : Fin 2) (l : Fin 1024) (n : Fin 1024) : EReal :=
  ∑ j : Fin 18, Attn.weight (score x Wq Wk g s b (head n) l) j * times (cand x b l j) Wv n

/-- Column `o` of the result's row `l`. -/
def result (b : Fin 2) (l : Fin 1024) (o : Fin 1024) : EReal := times (attend x Wq Wk Wv g s b l) Wp o

/-! ## Finite numbers stay finite -/

/-- A finite extended real. -/
def Fin' (a : EReal) : Prop := a ≠ ⊤ ∧ a ≠ ⊥

theorem fin_iff (a : EReal) : Fin' a ↔ ∃ r : ℝ, a = r := by
  constructor
  · rintro ⟨h1, h2⟩; exact ⟨a.toReal, (EReal.coe_toReal h1 h2).symm⟩
  · rintro ⟨r, rfl⟩; exact ⟨EReal.coe_ne_top r, EReal.coe_ne_bot r⟩

theorem Fin'.add {a b : EReal} (ha : Fin' a) (hb : Fin' b) : Fin' (a + b) := by
  obtain ⟨r, rfl⟩ := (fin_iff a).1 ha; obtain ⟨t, rfl⟩ := (fin_iff b).1 hb
  exact (fin_iff _).2 ⟨r + t, (EReal.coe_add r t).symm⟩

theorem Fin'.mul {a b : EReal} (ha : Fin' a) (hb : Fin' b) : Fin' (a * b) := by
  obtain ⟨r, rfl⟩ := (fin_iff a).1 ha; obtain ⟨t, rfl⟩ := (fin_iff b).1 hb
  exact (fin_iff _).2 ⟨r * t, (EReal.coe_mul r t).symm⟩

theorem Fin'.sub {a b : EReal} (ha : Fin' a) (hb : Fin' b) : Fin' (a - b) := by
  obtain ⟨r, rfl⟩ := (fin_iff a).1 ha; obtain ⟨t, rfl⟩ := (fin_iff b).1 hb
  exact (fin_iff _).2 ⟨r - t, (EReal.coe_sub r t).symm⟩

theorem Fin'.max {a b : EReal} (ha : Fin' a) (hb : Fin' b) : Fin' (max a b) := by
  rcases max_choice a b with h | h <;> rw [h] <;> assumption

theorem Fin'.sum {ι : Type} (S : Finset ι) (f : ι → EReal) (h : ∀ i, Fin' (f i)) : Fin' (∑ i ∈ S, f i) := by
  classical
  induction S using Finset.induction_on with
  | empty => exact (fin_iff _).2 ⟨0, rfl⟩
  | insert a S ha ih => rw [Finset.sum_insert ha]; exact (h a).add ih

theorem Fin'.div {a : EReal} (ha : Fin' a) {r : ℝ} (hr : r ≠ 0) : Fin' (Ideal.div a r) := by
  rw [Ideal.div_coe hr]; exact ha.mul ((fin_iff _).2 ⟨_, rfl⟩)

/-- The number of columns is 1024. -/
theorem count_eq : count = ((1024 : ℝ) : EReal) := by
  unfold count
  simp [Ideal.ofBits, Ideal.ieee, -EReal.coe_mul]; norm_num

/-- The small number is positive. -/
theorem small_eq : ∃ r : ℝ, 0 < r ∧ small = (r : EReal) := by
  unfold small
  refine ⟨(2 ^ 23 + 2606508 : ℝ) * 2 ^ (-40 : Int), by positivity, ?_⟩
  simp [Ideal.ofBits, Ideal.ieee, -EReal.coe_mul]; norm_num

theorem eight_eq : Ideal.ofBits .f32 0x41000000#32 = ((8 : ℝ) : EReal) := by
  simp [Ideal.ofBits, Ideal.ieee, -EReal.coe_mul]; norm_num

theorem eighth_eq : Ideal.ofBits .f32 0x3E000000#32 = ((1 / 8 : ℝ) : EReal) := by
  simp [Ideal.ofBits, Ideal.ieee, -EReal.coe_mul]; norm_num

/-- Multiplying by an eighth is dividing by eight. -/
theorem mul_eighth (a : EReal) : a * Ideal.ofBits .f32 0x3E000000#32 = Ideal.div a (Ideal.ofBits .f32 0x41000000#32) := by
  rw [eight_eq, eighth_eq, Ideal.div_coe (by norm_num)]

theorem Fin'.sum_sq {ι : Type} (S : Finset ι) (f : ι → EReal) (h : ∀ i, Fin' (f i)) : ∃ r : ℝ, 0 ≤ r ∧ ∑ i ∈ S, f i * f i = (r : EReal) := by
  classical
  induction S using Finset.induction_on with
  | empty => exact ⟨0, le_rfl, rfl⟩
  | insert a S ha ih =>
    obtain ⟨r, hr, e⟩ := ih
    obtain ⟨t, ht⟩ := (fin_iff _).1 (h a)
    rw [Finset.sum_insert ha, e, ht]
    exact ⟨t * t + r, by nlinarith [mul_self_nonneg t], by rw [EReal.coe_add, EReal.coe_mul]⟩

theorem fin_mean {r : Fin 1024 → EReal} (h : ∀ k, Fin' (r k)) : Fin' (mean r) := by
  unfold mean; rw [count_eq]; exact (Fin'.sum _ _ h).div (by norm_num)

/-- The spread of a finite row is a positive number. -/
theorem spread_pos {r : Fin 1024 → EReal} (h : ∀ k, Fin' (r k)) : ∃ t : ℝ, 0 < t ∧ spread r = (t : EReal) := by
  obtain ⟨a, ha, e⟩ := Fin'.sum_sq Finset.univ (fun k => r k - mean r) fun k => (h k).sub (fin_mean h)
  obtain ⟨t, ht, e'⟩ := small_eq
  refine ⟨a * (1 / 1024) + t, by positivity, ?_⟩
  unfold spread
  rw [e, e', count_eq, Ideal.div_coe (by norm_num), EReal.coe_add, EReal.coe_mul]

/-- The two ways of normalising a finite row agree. -/
theorem normBy_eq {r : Fin 1024 → EReal} (h : ∀ k, Fin' (r k)) (k : Fin 1024) : normBy g s r k = norm g s r k := by
  obtain ⟨t, ht, e⟩ := spread_pos h
  have hs : Real.sqrt t ≠ 0 := (Real.sqrt_pos.2 ht).ne'
  have e1 : Ideal.rsqrt ((t : ℝ) : EReal) = ((1 / Real.sqrt t : ℝ) : EReal) := by
    show (if t < 0 then (⊥ : EReal) else if t = 0 then ⊤ else (((Real.sqrt t)⁻¹ : ℝ) : EReal)) = _
    rw [if_neg (by linarith), if_neg ht.ne', one_div]
  have e2 : Ideal.sqrt ((t : ℝ) : EReal) = ((Real.sqrt t : ℝ) : EReal) := by
    show (if t < 0 then (⊥ : EReal) else ((Real.sqrt t : ℝ) : EReal)) = _
    rw [if_neg (by linarith)]
  unfold normBy norm
  rw [e, e1, e2, Ideal.div_coe hs]

theorem fin_norm {r : Fin 1024 → EReal} (h : ∀ k, Fin' (r k)) (hg : ∀ i, Fin' (g i)) (hs : ∀ i, Fin' (s i)) (k : Fin 1024) :
    Fin' (norm g s r k) := by
  obtain ⟨t, ht, e⟩ := spread_pos h
  have hs' : Real.sqrt t ≠ 0 := (Real.sqrt_pos.2 ht).ne'
  have e2 : Ideal.sqrt ((t : ℝ) : EReal) = ((Real.sqrt t : ℝ) : EReal) := by
    show (if t < 0 then (⊥ : EReal) else ((Real.sqrt t : ℝ) : EReal)) = _
    rw [if_neg (by linarith)]
  unfold norm
  rw [e, e2]
  exact ((((h k).sub (fin_mean h)).div hs').mul (hg _)).add (hs _)

theorem fin_times {r : Fin 1024 → EReal} {W : Weights} (h : ∀ k, Fin' (r k)) (hW : ∀ i, Fin' (W i)) (n : Fin 1024) : Fin' (times r W n) :=
  Fin'.sum _ _ fun k => (h k).mul (hW _)

section
variable {x}
variable (hx : ∀ i, Fin' (x i))
include hx

theorem fin_p1 (b : Fin 2) (l k : Fin 1024) : Fin' (p1 x b l k) := (hx _).max (hx _)

theorem fin_p2 (b : Fin 2) (l : Fin 512) (k : Fin 1024) : Fin' (p2 x b l k) := (fin_p1 hx _ _ _).max (fin_p1 hx _ _ _)

theorem fin_cand (b : Fin 2) (l : Fin 1024) (j : Fin 18) (k : Fin 1024) : Fin' (cand x b l j k) := by
  unfold cand
  split
  · exact fin_p1 hx _ _ _
  · split
    · exact fin_p2 hx _ _ _
    · exact hx _

variable {Wq Wk g s}

/-- Every score of finite arrays is finite. -/
theorem fin_score (hq : ∀ i, Fin' (Wq i)) (hk : ∀ i, Fin' (Wk i)) (hg : ∀ i, Fin' (g i)) (hs : ∀ i, Fin' (s i))
    (b : Fin 2) (h : Fin 16) (l : Fin 1024) (j : Fin 18) : Fin' (score x Wq Wk g s b h l j) := by
  unfold score
  rw [eight_eq]
  refine Fin'.div (Fin'.sum _ _ fun d => ?_) (by norm_num)
  exact (fin_times (fin_norm g s (fin_p1 hx b l) hg hs) hq _).mul (fin_times (fin_cand hx b l j) hk _)

/-- On finite arrays the sum over all candidates is the sum over the best sixteen. -/
theorem attendAll_eq (hq : ∀ i, Fin' (Wq i)) (hk : ∀ i, Fin' (Wk i)) (hg : ∀ i, Fin' (g i)) (hs : ∀ i, Fin' (s i))
    (b : Fin 2) (l n : Fin 1024) : attendAll x Wq Wk Wv g s b l n = attend x Wq Wk Wv g s b l n :=
  Attn.attend_eq _ (fun j => fin_score hx hq hk hg hs b (head n) l j) fun j => times (cand x b l j) Wv n

end

end Cert.Spec
-- ==== Proof.Prep.lean ====
/- Region 0: what the three arrays it writes hold when it is left. Each grid point pools 128 groups of four rows, once and twice, and
   normalises the rows pooled once. -/
module

public import proofs.«01_k».proof.Proof.RunIdeal.Region0
public import proofs.«01_k».proof.Proof.Spec
public import Idealize.ShloMosaic.Lib.Pipeline.ValueKit

@[expose] public section

set_option maxRecDepth 16384

noncomputable section

namespace Cert.KernelIdeal.Prep

open Cert.KernelIdeal Cert.KernelIdeal.Gen Cert.KernelIdeal.Run
open Idealize.ShloMosaic Idealize.ShloMosaic.TcCoe
open scoped BigOperators

variable (V : (c : Dev nD) → (b : Ref sig .tc) → Buf (Elt Ideal) ((c : Thread nD τ).loc b))

/-- Groups of four rows pooled in pairs. -/
def pairs {A B : ℕ} (X : FVec Ideal ⟨5, ![A, B, 2, 2, 1024]⟩ .f32) : FVec Ideal ⟨4, ![A, B, 2, 1024]⟩ .f32 :=
  fun i => max (X (ix5 (i 0) (i 1) (i 2) 0 (i 3))) (X (ix5 (i 0) (i 1) (i 2) 1 (i 3)))

/-- Groups of four rows pooled to one. -/
def fours {A B : ℕ} (X : FVec Ideal ⟨5, ![A, B, 2, 2, 1024]⟩ .f32) : FVec Ideal ⟨3, ![A, B, 1024]⟩ .f32 :=
  fun i => max (pairs X (ix4 (i 0) (i 1) 0 (i 2))) (pairs X (ix4 (i 0) (i 1) 1 (i 2)))

/-- A single line as a vector. -/
def line (g : FVec Ideal ⟨2, ![1, 1024]⟩ .f32) : Spec.Line := fun i => g (ix2 0 (i 0))

/-- The rows pooled in pairs, normalised. -/
def normed {A B : ℕ} (X : FVec Ideal ⟨5, ![A, B, 2, 2, 1024]⟩ .f32) (g s : FVec Ideal ⟨2, ![1, 1024]⟩ .f32) :
    FVec Ideal ⟨4, ![A, B, 2, 1024]⟩ .f32 :=
  fun i => Spec.normBy (line g) (line s) (fun k => pairs X (ix4 (i 0) (i 1) (i 2) k)) (i 3)

/-- The largest of two numbers above the least extended real. -/
theorem fold_two (f : Fin 2 → EReal) : Finset.univ.fold max (Ideal.ofBits .f32 0xFF800000#32) f = max (f 0) (f 1) := by
  have h : Ideal.ofBits .f32 0xFF800000#32 = (⊥ : EReal) := by simp [Ideal.ofBits, Ideal.ieee]
  rw [h]
  have e : (Finset.univ : Finset (Fin 2)) = {0, 1} := rfl
  rw [e, Finset.fold_insert (by decide), Finset.fold_singleton]
  exact congrArg _ (max_eq_left bot_le)

theorem pay3_apply (x0 : Vec Ideal S1x128x2x2x1024 .f32) (i : S128x2x1024.Idx) :
    k0_pay3 x0 i = pairs x0 (ix4 0 (i 0) (i 1) (i 2)) := by
  idx_vars i
  unfold pairs
  pointwise [k0_pay3, fold_two]

theorem out3_eq (x0 : Vec Ideal S1x128x2x2x1024 .f32) (x1 x2 : Vec Ideal S1x1024 .f32) : out0_3 x0 x1 x2 = pairs x0 := by
  unfold out0_3 k0_pay6
  rw [View.canon_unit_zero (by funext a; fin_cases a <;> rfl), View.ld_unit_zero (by funext a; fin_cases a <;> rfl)]
  funext i
  idx_vars i
  obtain rfl : i0 = 0 := Subsingleton.elim _ _
  pointwise [pay3_apply]

theorem out4_eq (x0 : Vec Ideal S1x128x2x2x1024 .f32) (x1 x2 : Vec Ideal S1x1024 .f32) : out0_4 x0 x1 x2 = fours x0 := by
  unfold out0_4 k0_pay1 k0_pay4
  rw [View.canon_unit_zero (by funext a; fin_cases a <;> rfl), View.ld_unit_zero (by funext a; fin_cases a <;> rfl)]
  funext i
  idx_vars i
  obtain rfl : i0 = 0 := Subsingleton.elim _ _
  unfold fours
  pointwise [pay3_apply, fold_two]

theorem out5_eq (x0 : Vec Ideal S1x128x2x2x1024 .f32) (x1 x2 : Vec Ideal S1x1024 .f32) : out0_5 x0 x1 x2 = normed x0 x1 x2 := by
  unfold out0_5 k0_pay2
  rw [View.canon_unit_zero (by funext a; fin_cases a <;> rfl), View.ld_unit_zero (by funext a; fin_cases a <;> rfl),
    View.ld_unit_zero (by funext a; fin_cases a <;> rfl), View.ld_unit_zero (by funext a; fin_cases a <;> rfl)]
  funext i
  idx_vars i
  obtain rfl : i0 = 0 := Subsingleton.elim _ _
  unfold normed Spec.normBy Spec.spread Spec.mean Spec.count Spec.small line
  pointwise [k0_pay5, pay3_apply]

/-! ## From blocks to arrays -/

/-- Each window's block index at a point. -/
theorem index_0 : ∀ t : Fin cfg0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0 :=
  (by decide +kernel : ∀ t : Fin grid0.N, _)

theorem index_12 : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem index_3 : ∀ t : Fin cfg0.N, win0_3.index t (0 : Fin 4) = t.val / 4 ∧ win0_3.index t (1 : Fin 4) = t.val % 4
    ∧ win0_3.index t (2 : Fin 4) = 0 ∧ win0_3.index t (3 : Fin 4) = 0 :=
  (by decide +kernel : ∀ t : Fin grid0.N, _)

theorem index_4 : ∀ t : Fin cfg0.N, win0_4.index t (0 : Fin 3) = t.val / 4 ∧ win0_4.index t (1 : Fin 3) = t.val % 4
    ∧ win0_4.index t (2 : Fin 3) = 0 :=
  (by decide +kernel : ∀ t : Fin grid0.N, _)

theorem index_5 : ∀ t : Fin cfg0.N, win0_5.index t (0 : Fin 4) = t.val / 4 ∧ win0_5.index t (1 : Fin 4) = t.val % 4
    ∧ win0_5.index t (2 : Fin 4) = 0 ∧ win0_5.index t (3 : Fin 4) = 0 :=
  (by decide +kernel : ∀ t : Fin grid0.N, _)

/-- A block's pooled pair is the array's where the block's groups are the array's. -/
theorem pairs_congr {A B A' B' : ℕ} (X : FVec Ideal ⟨5, ![A, B, 2, 2, 1024]⟩ .f32) (X' : FVec Ideal ⟨5, ![A', B', 2, 2, 1024]⟩ .f32)
    (i : (⟨4, ![A, B, 2, 1024]⟩ : Shape).Idx) (i' : (⟨4, ![A', B', 2, 1024]⟩ : Shape).Idx)
    (h : ∀ e : Fin 2, X (ix5 (i 0) (i 1) (i 2) e (i 3)) = X' (ix5 (i' 0) (i' 1) (i' 2) e (i' 3))) : pairs X i = pairs X' i' := by
  unfold pairs
  rw [h, h]

/-- The same for rows pooled twice. -/
theorem fours_congr {A B A' B' : ℕ} (X : FVec Ideal ⟨5, ![A, B, 2, 2, 1024]⟩ .f32) (X' : FVec Ideal ⟨5, ![A', B', 2, 2, 1024]⟩ .f32)
    (i : (⟨3, ![A, B, 1024]⟩ : Shape).Idx) (i' : (⟨3, ![A', B', 1024]⟩ : Shape).Idx)
    (h : ∀ d e : Fin 2, X (ix5 (i 0) (i 1) d e (i 2)) = X' (ix5 (i' 0) (i' 1) d e (i' 2))) : fours X i = fours X' i' := by
  unfold fours
  exact congrArg₂ max (pairs_congr _ _ _ _ fun e => h 0 e) (pairs_congr _ _ _ _ fun e => h 1 e)

/-- The same for normalised rows: the whole row is read. -/
theorem normed_congr {A B A' B' : ℕ} (X : FVec Ideal ⟨5, ![A, B, 2, 2, 1024]⟩ .f32) (X' : FVec Ideal ⟨5, ![A', B', 2, 2, 1024]⟩ .f32)
    (g g' s s' : FVec Ideal ⟨2, ![1, 1024]⟩ .f32)
    (i : (⟨4, ![A, B, 2, 1024]⟩ : Shape).Idx) (i' : (⟨4, ![A', B', 2, 1024]⟩ : Shape).Idx)
    (h : ∀ (e : Fin 2) (k : Fin 1024), X (ix5 (i 0) (i 1) (i 2) e k) = X' (ix5 (i' 0) (i' 1) (i' 2) e k))
    (hg : ∀ k : Fin 1024, g (ix2 0 k) = g' (ix2 0 k)) (hs : ∀ k : Fin 1024, s (ix2 0 k) = s' (ix2 0 k)) (h3 : (i 3).val = (i' 3).val) :
    normed X g s i = normed X' g' s' i' := by
  unfold normed
  rw [show line g = line g' from funext fun k => hg _, show line s = line s' from funext fun k => hs _,
    show (fun k => pairs X (ix4 (i 0) (i 1) (i 2) k)) = fun k => pairs X' (ix4 (i' 0) (i' 1) (i' 2) k) from
      funext fun k => pairs_congr _ _ _ _ fun e => h e k]
  exact congrArg _ (Fin.ext h3)

/-- The rows pooled once. -/
theorem array_3 (c : Dev nD) : (dat0 V c).arrAt 3 cfg0.N = pairs (V c (Pipeline.arrRef spec0 0)) := by
  refine (dat0 V c).arrAt_eq_of_covers 3 _ (by decide +kernel) fun t hf y => ?_
  blk_simp
  rw [after0_3, out3_eq]
  obtain ⟨e0, e1, e2, e3, e4⟩ := index_0 t
  obtain ⟨f0, f1, f2, f3⟩ := index_3 t
  refine pairs_congr _ _ _ _ fun e => ?_
  unfold iblk0
  blk_ext [e0, e1, e2, e3, e4, f0, f1, f2, f3]

/-- The rows pooled twice. -/
theorem array_4 (c : Dev nD) : (dat0 V c).arrAt 4 cfg0.N = fours (V c (Pipeline.arrRef spec0 0)) := by
  refine (dat0 V c).arrAt_eq_of_covers 4 _ (by decide +kernel) fun t hf y => ?_
  blk_simp
  rw [after0_4, out4_eq]
  obtain ⟨e0, e1, e2, e3, e4⟩ := index_0 t
  obtain ⟨f0, f1, f2⟩ := index_4 t
  refine fours_congr _ _ _ _ fun d e => ?_
  unfold iblk0
  blk_ext [e0, e1, e2, e3, e4, f0, f1, f2]

/-- The rows pooled once, normalised. -/
theorem array_5 (c : Dev nD) : (dat0 V c).arrAt 5 cfg0.N
    = normed (V c (Pipeline.arrRef spec0 0)) (V c (Pipeline.arrRef spec0 1)) (V c (Pipeline.arrRef spec0 2)) := by
  refine (dat0 V c).arrAt_eq_of_covers 5 _ (by decide +kernel) fun t hf y => ?_
  blk_simp
  rw [after0_5, out5_eq]
  obtain ⟨e0, e1, e2, e3, e4⟩ := index_0 t
  obtain ⟨d0, d1, d2, d3⟩ := index_12 t
  obtain ⟨f0, f1, f2, f3⟩ := index_5 t
  refine normed_congr _ _ _ _ _ _ _ _ (fun e k => ?_) (fun k => ?_) (fun k => ?_) ?_
  · unfold iblk0
    blk_ext [e0, e1, e2, e3, e4, f0, f1, f2, f3]
  · unfold iblk0
    blk_ext [d0, d1, d2, d3]
  · unfold iblk0
    blk_ext [d0, d1, d2, d3]
  · blk_simp [f3]

end Cert.KernelIdeal.Prep
-- ==== Proof.Products.lean ====
/- The plain products (regions 1, 2, 3, 4 and 6): what the array a region writes holds when the region is left, as one function of
   the two arrays it reads. Each grid point writes the product of 512 rows of the left array with the whole right array. -/
module

public import proofs.«01_k».proof.Proof.RunIdeal.Region1
public import proofs.«01_k».proof.Proof.RunIdeal.Region2
public import proofs.«01_k».proof.Proof.RunIdeal.Region3
public import proofs.«01_k».proof.Proof.RunIdeal.Region4
public import proofs.«01_k».proof.Proof.RunIdeal.Region6
public import Idealize.ShloMosaic.Lib.MatmulPlain
public import Idealize.ShloMosaic.Lib.Pipeline.ValueKit

@[expose] public section

set_option maxRecDepth 16384

noncomputable section

namespace Cert.KernelIdeal.Products

open Cert.KernelIdeal Cert.KernelIdeal.Gen Cert.KernelIdeal.Run
open Idealize.ShloMosaic Idealize.ShloMosaic.TcCoe
open scoped BigOperators

variable (V : (c : Dev nD) → (b : Ref sig .tc) → Buf (Elt Ideal) ((c : Thread nD τ).loc b))

/-- The product of two arrays. -/
def prod {M K N : ℕ} (A : FVec Ideal ⟨2, ![M, K]⟩ .f32) (B : FVec Ideal ⟨2, ![K, N]⟩ .f32) : FVec Ideal ⟨2, ![M, N]⟩ .f32 :=
  fun i => ∑ k : Fin K, A (ix2 (i 0) k) * B (ix2 k (i 1))

/-- A product accumulated on zeros is the product. -/
theorem matmul_eq_prod {M K N : ℕ} (A : FVec Ideal ⟨2, ![M, K]⟩ .f32) (B : FVec Ideal ⟨2, ![K, N]⟩ .f32) :
    matmul (DotDims.plain M K N) none A B (constant ⟨2, ![M, N]⟩ .f32 0x00000000#32) = prod A B := by
  funext i
  obtain ⟨i0, i1, rfl⟩ : ∃ i0 i1, i = ix2 i0 i1 := ⟨i 0, i 1, eq_ix2 i⟩
  refine (Ideal.matmul_plain_apply none A B _ i0 i1).trans ?_
  show Ideal.ofBits .f32 0x00000000#32 + _ = _
  rw [Ideal.ofBits_zero_f32, zero_add]
  exact Finset.sum_congr rfl fun k _ => by rw [← ix2_eq_valueIdx, ← ix2_eq_valueIdx]; rfl

theorem zero2 : (![0, 0] : Fin 2 → Nat) = fun _ => 0 := funext fun a => by fin_cases a <;> rfl

/-- A row of a block's product is the row of the whole product: the block's rows are rows of the left array, and the block of the
    right array is all of it. -/
theorem prod_of_rows {M M' K N : ℕ} (A : FVec Ideal ⟨2, ![M, K]⟩ .f32) (A' : FVec Ideal ⟨2, ![M', K]⟩ .f32)
    (B B' : FVec Ideal ⟨2, ![K, N]⟩ .f32) (i : (⟨2, ![M, N]⟩ : Shape).Idx) (i' : (⟨2, ![M', N]⟩ : Shape).Idx)
    (hA : ∀ k, A (ix2 (i 0) k) = A' (ix2 (i' 0) k)) (hB : ∀ k, B (ix2 k (i 1)) = B' (ix2 k (i' 1))) : prod A B i = prod A' B' i' :=
  Finset.sum_congr rfl fun k _ => by rw [hA, hB]

theorem out1_eq (x0 : Vec Ideal S512x1024 .f32) (x1 : Vec Ideal S1024x1024 .f32) : out1_2 x0 x1 = prod x0 x1 := by
  unfold out1_2 k1_pay1
  rw [View.canon_unit_zero zero2, View.ld_unit_zero zero2, View.ld_unit_zero zero2, shapeCast_self]
  exact matmul_eq_prod x0 x1

theorem index1 : ∀ t : Fin cfg1.N, win1_0.index t (0 : Fin 2) = t.val ∧ win1_0.index t (1 : Fin 2) = 0 ∧ win1_1.index t (0 : Fin 2) = 0
    ∧ win1_1.index t (1 : Fin 2) = 0 ∧ win1_2.index t (0 : Fin 2) = t.val ∧ win1_2.index t (1 : Fin 2) = 0 :=
  (by decide +kernel : ∀ t : Fin grid1.N, _)

/-- The query projection. -/
theorem array1 (c : Dev nD) : (dat1 V c).arrAt 2 cfg1.N = prod (V c (Pipeline.arrRef spec1 0)) (V c (Pipeline.arrRef spec1 1)) := by
  refine (dat1 V c).arrAt_eq_of_covers 2 _ (by decide +kernel) fun t hf y => ?_
  blk_simp
  rw [after1_2, out1_eq]
  obtain ⟨e0, e1, e2, e3, e4, e5⟩ := index1 t
  refine prod_of_rows _ _ _ _ _ _ (fun k => ?_) fun k => ?_
  · unfold iblk1
    blk_ext [e0, e1, e2, e3, e4, e5]
  · unfold iblk1
    blk_ext [e0, e1, e2, e3, e4, e5]

theorem out2_eq (x0 : Vec Ideal S512x1024 .f32) (x1 : Vec Ideal S1024x2048 .f32) : out2_2 x0 x1 = prod x0 x1 := by
  unfold out2_2 k2_pay1
  rw [View.canon_unit_zero zero2, View.ld_unit_zero zero2, View.ld_unit_zero zero2, shapeCast_self, shapeCast_self]
  exact matmul_eq_prod x0 x1

theorem index2 : ∀ t : Fin cfg2.N, win2_0.index t (0 : Fin 2) = t.val ∧ win2_0.index t (1 : Fin 2) = 0 ∧ win2_1.index t (0 : Fin 2) = 0
    ∧ win2_1.index t (1 : Fin 2) = 0 ∧ win2_2.index t (0 : Fin 2) = t.val ∧ win2_2.index t (1 : Fin 2) = 0 :=
  (by decide +kernel : ∀ t : Fin grid2.N, _)

/-- The keys and values of the rows of half the length, side by side. -/
theorem array2 (c : Dev nD) : (dat2 V c).arrAt 2 cfg2.N = prod (V c (Pipeline.arrRef spec2 0)) (V c (Pipeline.arrRef spec2 1)) := by
  refine (dat2 V c).arrAt_eq_of_covers 2 _ (by decide +kernel) fun t hf y => ?_
  blk_simp
  rw [after2_2, out2_eq]
  obtain ⟨e0, e1, e2, e3, e4, e5⟩ := index2 t
  refine prod_of_rows _ _ _ _ _ _ (fun k => ?_) fun k => ?_
  · unfold iblk2
    blk_ext [e0, e1, e2, e3, e4, e5]
  · unfold iblk2
    blk_ext [e0, e1, e2, e3, e4, e5]

theorem out3_eq (x0 : Vec Ideal S512x1024 .f32) (x1 : Vec Ideal S1024x2048 .f32) : out3_2 x0 x1 = prod x0 x1 := by
  unfold out3_2 k3_pay1
  rw [View.canon_unit_zero zero2, View.ld_unit_zero zero2, View.ld_unit_zero zero2, shapeCast_self, shapeCast_self]
  exact matmul_eq_prod x0 x1

theorem index3 : ∀ t : Fin cfg3.N, win3_0.index t (0 : Fin 2) = t.val ∧ win3_0.index t (1 : Fin 2) = 0 ∧ win3_1.index t (0 : Fin 2) = 0
    ∧ win3_1.index t (1 : Fin 2) = 0 ∧ win3_2.index t (0 : Fin 2) = t.val ∧ win3_2.index t (1 : Fin 2) = 0 :=
  (by decide +kernel : ∀ t : Fin grid3.N, _)

/-- The keys and values of the rows of a quarter of the length, side by side. -/
theorem array3 (c : Dev nD) : (dat3 V c).arrAt 2 cfg3.N = prod (V c (Pipeline.arrRef spec3 0)) (V c (Pipeline.arrRef spec3 1)) := by
  refine (dat3 V c).arrAt_eq_of_covers 2 _ (by decide +kernel) fun t hf y => ?_
  blk_simp
  rw [after3_2, out3_eq]
  obtain ⟨e0, e1, e2, e3, e4, e5⟩ := index3 t
  refine prod_of_rows _ _ _ _ _ _ (fun k => ?_) fun k => ?_
  · unfold iblk3
    blk_ext [e0, e1, e2, e3, e4, e5]
  · unfold iblk3
    blk_ext [e0, e1, e2, e3, e4, e5]

theorem out4_eq (x0 : Vec Ideal S512x1024 .f32) (x1 : Vec Ideal S1024x2048 .f32) : out4_2 x0 x1 = prod x0 x1 := by
  unfold out4_2 k4_pay1
  rw [View.canon_unit_zero zero2, View.ld_unit_zero zero2, View.ld_unit_zero zero2, shapeCast_self, shapeCast_self]
  exact matmul_eq_prod x0 x1

theorem index4 : ∀ t : Fin cfg4.N, win4_0.index t (0 : Fin 2) = t.val ∧ win4_0.index t (1 : Fin 2) = 0 ∧ win4_1.index t (0 : Fin 2) = 0
    ∧ win4_1.index t (1 : Fin 2) = 0 ∧ win4_2.index t (0 : Fin 2) = t.val ∧ win4_2.index t (1 : Fin 2) = 0 :=
  (by decide +kernel : ∀ t : Fin grid4.N, _)

/-- The keys and values of the rows of full length, side by side. -/
theorem array4 (c : Dev nD) : (dat4 V c).arrAt 2 cfg4.N = prod (V c (Pipeline.arrRef spec4 0)) (V c (Pipeline.arrRef spec4 1)) := by
  refine (dat4 V c).arrAt_eq_of_covers 2 _ (by decide +kernel) fun t hf y => ?_
  blk_simp
  rw [after4_2, out4_eq]
  obtain ⟨e0, e1, e2, e3, e4, e5⟩ := index4 t
  refine prod_of_rows _ _ _ _ _ _ (fun k => ?_) fun k => ?_
  · unfold iblk4
    blk_ext [e0, e1, e2, e3, e4, e5]
  · unfold iblk4
    blk_ext [e0, e1, e2, e3, e4, e5]

theorem out6_eq (x0 : Vec Ideal S512x1024 .f32) (x1 : Vec Ideal S1024x1024 .f32) : out6_2 x0 x1 = prod x0 x1 := by
  unfold out6_2 k6_pay1
  rw [View.canon_unit_zero zero2, View.ld_unit_zero zero2, View.ld_unit_zero zero2, shapeCast_self]
  exact matmul_eq_prod x0 x1

theorem index6 : ∀ t : Fin cfg6.N, win6_0.index t (0 : Fin 2) = t.val ∧ win6_0.index t (1 : Fin 2) = 0 ∧ win6_1.index t (0 : Fin 2) = 0
    ∧ win6_1.index t (1 : Fin 2) = 0 ∧ win6_2.index t (0 : Fin 2) = t.val ∧ win6_2.index t (1 : Fin 2) = 0 :=
  (by decide +kernel : ∀ t : Fin grid6.N, _)

/-- The output projection. -/
theorem array6 (c : Dev nD) : (dat6 V c).arrAt 2 cfg6.N = prod (V c (Pipeline.arrRef spec6 0)) (V c (Pipeline.arrRef spec6 1)) := by
  refine (dat6 V c).arrAt_eq_of_covers 2 _ (by decide +kernel) fun t hf y => ?_
  blk_simp
  rw [after6_2, out6_eq]
  obtain ⟨e0, e1, e2, e3, e4, e5⟩ := index6 t
  refine prod_of_rows _ _ _ _ _ _ (fun k => ?_) fun k => ?_
  · unfold iblk6
    blk_ext [e0, e1, e2, e3, e4, e5]
  · unfold iblk6
    blk_ext [e0, e1, e2, e3, e4, e5]

end Cert.KernelIdeal.Products
-- ==== Proof.Stage.lean ====
/- Parts of region 5's body, each at an index: the matrix that picks a head's columns, a product with it, a product with its
   transpose, and the weights of the eighteen candidates from their scores. -/
module

public import proofs.«01_k».proof.Proof.Gen.KernelIdeal.Skeleton
public import proofs.«01_k».proof.Proof.Attn
public import Idealize.ShloMosaic.Lib.Pointwise
public import Idealize.ShloMosaic.Lib.MatmulPlain

@[expose] public section

set_option maxRecDepth 16384

noncomputable section

namespace Cert.KernelIdeal.Stage

open Cert.KernelIdeal Cert.KernelIdeal.Gen
open Idealize.ShloMosaic Idealize.ShloMosaic.TcCoe
open scoped BigOperators

/-! ## Picking a head's columns -/

/-- The word the body computes for a row and a column: one where the column is the row's head, sixty-four rows to a head. -/
theorem pick_word : ∀ (r : Fin 128) (h : Fin 2),
    BitVec.setWidth 32 (IntOp.cmpi CmpIPredicate.eq
      (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32))
      (BitVec.ofNat 32 h.val)) = if r.val / 64 = h.val then 1#32 else 0#32 := by
  decide +kernel

/-- The matrix with a one where the column is the row's head. -/
def sel : FVec Ideal ⟨2, ![128, 2]⟩ .f32 := fun i => if (i 0).val / 64 = (i 1).val then 1 else 0

/-- A word that is one or zero, as a number. -/
theorem sitofp_ite (p : Prop) [Decidable p] :
    FloatOps.sitofp (F := Ideal) FTy.f32 (if p then 1#32 else 0#32) = if p then (1 : EReal) else 0 := by
  split
  · show (((1#32 : BitVec 32).toInt : ℝ) : EReal) = 1
    norm_num [BitVec.toInt]
  · show (((0#32 : BitVec 32).toInt : ℝ) : EReal) = 0
    norm_num [BitVec.toInt]

theorem sel_eq : k5_pay3 (F := Ideal) = sel := by
  funext i
  idx_vars i
  unfold sel
  pointwise [k5_pay3]
  rw [pick_word]
  exact sitofp_ite _

/-- The transpose of that matrix, as the body computes it a second time. -/
theorem selt_eq : k5_pay38 (F := Ideal) (iota .tc S128x2 32 [1] iota_S128x2_d1_w32) (k5_pay34 (iota .tc S128x2 32 [0] iota_S128x2_d0_w32))
    (k5_pay35 (iota .tc S128x2 32 [0] iota_S128x2_d0_w32)) (k5_pay36 (iota .tc S128x2 32 [0] iota_S128x2_d0_w32)) k5_pay37
    = fun i => sel (ix2 (i 1) (i 0)) := by
  funext i
  idx_vars i
  unfold sel
  pointwise [k5_pay38, k5_pay34, k5_pay35, k5_pay36, k5_pay37]
  rw [pick_word]
  exact sitofp_ite _

/-- A sum that keeps a head's columns. -/
theorem sum_pick (f : Fin 128 → EReal) (h : Fin 2) :
    (∑ x : Fin 128, f x * if x.val / 64 = h.val then (1 : EReal) else 0) = ∑ d : Fin 64, f ⟨64 * h.val + d.val, by omega⟩ := by
  have e : ∀ x : Fin 128, (f x * if x.val / 64 = h.val then (1 : EReal) else 0) = if x.val / 64 = h.val then f x else 0 := by
    intro x; split <;> simp
  simp only [e]
  rw [show (∑ x : Fin 128, if x.val / 64 = h.val then f x else 0)
      = ∑ x : Fin (64 + 64), if x.val / 64 = h.val then f x else 0 from rfl, Fin.sum_univ_add]
  have ha : ∀ a : Fin 64, (Fin.castAdd 64 a).val / 64 = 0 := fun a => Nat.div_eq_of_lt a.isLt
  have hb : ∀ a : Fin 64, (Fin.natAdd 64 a).val / 64 = 1 := fun a => by have := a.isLt; simp only [Fin.val_natAdd]; omega
  simp only [ha, hb]
  match h with
  | 0 =>
    simp only [Fin.val_zero, if_true, one_ne_zero, if_false, Finset.sum_const_zero, add_zero]
    exact Finset.sum_congr rfl fun d _ => congrArg f (Fin.ext (by simp))
  | 1 =>
    simp only [Fin.val_one, if_true, zero_ne_one, if_false, Finset.sum_const_zero, zero_add]
    exact Finset.sum_congr rfl fun d _ => congrArg f (Fin.ext (by simp [Nat.add_comm]))

/-- A sum over two that keeps one. -/
theorem pair_pick (f : Fin 2 → EReal) (n : Fin 128) :
    (∑ x : Fin 2, f x * if n.val / 64 = x.val then (1 : EReal) else 0) = f ⟨n.val / 64, by omega⟩ := by
  rw [Finset.sum_eq_single (⟨n.val / 64, by omega⟩ : Fin 2)]
  · simp
  · intro b _ hb
    rw [if_neg fun e => hb (Fin.ext e.symm), mul_zero]
  · intro h; exact absurd (Finset.mem_univ _) h

/-- Each row's sums over the columns of the two heads. -/
def heads (M : FVec Ideal S1024x128 .f32) : FVec Ideal S1024x2 .f32 :=
  fun i => ∑ d : Fin 64, M (ix2 (i 0) ⟨64 * (i 1).val + d.val, by have h : (i 1).val < 2 := (i 1).isLt; omega⟩)

/-- A product with the picking matrix sums a head's columns. -/
theorem matmul_sel (M : FVec Ideal S1024x128 .f32) :
    matmul dot_S1024x128_S128x2_S1024x2_1_0_0_1_n_n none M sel (constant S1024x2 .f32 0x00000000#32) = heads M := by
  funext i
  idx_vars i
  unfold heads sel
  pointwise
  exact sum_pick (fun x => M (ix2 i0 x)) i1

/-- Two columns spread over the columns of their heads. -/
def wide (C : FVec Ideal S1024x2 .f32) : FVec Ideal S1024x128 .f32 :=
  fun i => C (ix2 (i 0) ⟨(i 1).val / 64, by have h : (i 1).val < 128 := (i 1).isLt; omega⟩)

theorem matmul_selt (C : FVec Ideal S1024x2 .f32) :
    matmul dot_S1024x2_S2x128_S1024x128_1_0_0_1_n_n none C (fun i => sel (ix2 (i 1) (i 0))) (constant S1024x128 .f32 0x00000000#32)
      = wide C := by
  funext i
  idx_vars i
  unfold wide sel
  pointwise
  exact pair_pick (fun x => C (ix2 i0 x)) i1

/-! ## From scores to weights -/

/-- Row `l` of the scores. -/
def row (S : FVec Ideal S1024x18 .f32) (l : Fin 1024) (j : Fin 18) : EReal := S (ix2 l j)

/-- The weights of every row. -/
def weights (S : FVec Ideal S1024x18 .f32) : FVec Ideal S1024x18 .f32 := fun i => Attn.weight (row S (i 0)) (i 1)

theorem inf_eq : Ideal.ofBits .f32 0x7F800000#32 = (⊤ : EReal) := by simp [Ideal.ofBits, Ideal.ieee]
theorem ninf_eq : Ideal.ofBits .f32 0xFF800000#32 = (⊥ : EReal) := by simp [Ideal.ofBits, Ideal.ieee]

/-- The last candidate with the least score, the test written as a conditional. -/
theorem lastWord_ite (s : Fin 18 → EReal) :
    (Finset.univ.fold IntOp.maxsi 2147483648#32 fun x : Fin 18 =>
      if s x = Finset.univ.fold min ⊤ (fun x => s x) then BitVec.ofNat 32 x.val else 4294967295#32) = Attn.lastWord s := by
  unfold Attn.lastWord
  pointwise

/-- Head 0: whether a candidate is the last with the least score. -/
theorem pay27_eq (v1 : FVec Ideal S1024x128 .f32) (v30 : FVec Ideal S128x2 .f32) (v34 v38 v42 v46 v50 v54 v58 v62 v66 v70 v74 v78 v82 v90 v97 : FVec Ideal S1024x2 .f32) (v103 : FVec Ideal S1024x128 .f32)
    (c : FVec Ideal S1024x2 .f32) (v105 : Vec Ideal S1x2048x128 .f32) :
    k5_pay27 v1 v30 v34 v38 v42 v46 v50 v54 v58 v62 v66 v70 v74 v78 v82 v90 v97 v103 c v105
      = fun i => Attn.isLast (row (k5_pay26 v1 v30 v34 v38 v42 v46 v50 v54 v58 v62 v66 v70 v74 v78 v82 v90 v97 v103 c v105) (i 0)) (i 1) := by
  funext i
  unfold k5_pay27
  generalize k5_pay26 v1 v30 v34 v38 v42 v46 v50 v54 v58 v62 v66 v70 v74 v78 v82 v90 v97 v103 c v105 = S
  idx_vars i
  unfold Attn.isLast Attn.lastWord row
  pointwise [inf_eq]

/-- Head 0: the scores with that one raised. -/
theorem pay28_eq (v1 : FVec Ideal S1024x128 .f32) (v30 : FVec Ideal S128x2 .f32) (v34 v38 v42 v46 v50 v54 v58 v62 v66 v70 v74 v78 v82 v90 v97 : FVec Ideal S1024x2 .f32) (v103 : FVec Ideal S1024x128 .f32)
    (c : FVec Ideal S1024x2 .f32) (v105 : Vec Ideal S1x2048x128 .f32) :
    k5_pay28 v1 v30 v34 v38 v42 v46 v50 v54 v58 v62 v66 v70 v74 v78 v82 v90 v97 v103 c v105
      = fun i => Attn.raised (row (k5_pay26 v1 v30 v34 v38 v42 v46 v50 v54 v58 v62 v66 v70 v74 v78 v82 v90 v97 v103 c v105) (i 0)) (i 1) := by
  funext i
  unfold k5_pay28
  rw [pay27_eq]
  generalize k5_pay26 v1 v30 v34 v38 v42 v46 v50 v54 v58 v62 v66 v70 v74 v78 v82 v90 v97 v103 c v105 = S
  idx_vars i
  unfold Attn.raised row
  pointwise [inf_eq]

/-- Head 0: the least of the raised scores. -/
theorem pay29_eq (v1 : FVec Ideal S1024x128 .f32) (v30 : FVec Ideal S128x2 .f32) (v34 v38 v42 v46 v50 v54 v58 v62 v66 v70 v74 v78 v82 v90 v97 : FVec Ideal S1024x2 .f32) (v103 : FVec Ideal S1024x128 .f32)
    (c : FVec Ideal S1024x2 .f32) (v105 : Vec Ideal S1x2048x128 .f32) :
    k5_pay29 v1 v30 v34 v38 v42 v46 v50 v54 v58 v62 v66 v70 v74 v78 v82 v90 v97 v103 c v105
      = fun i => Finset.univ.fold min ⊤ (Attn.raised (row (k5_pay26 v1 v30 v34 v38 v42 v46 v50 v54 v58 v62 v66 v70 v74 v78 v82 v90 v97 v103 c v105) (i 0))) := by
  funext i
  unfold k5_pay29
  rw [pay28_eq]
  generalize k5_pay26 v1 v30 v34 v38 v42 v46 v50 v54 v58 v62 v66 v70 v74 v78 v82 v90 v97 v103 c v105 = S
  idx_vars i
  unfold row
  pointwise [inf_eq]

/-- Head 0: the weights. -/
theorem pay30_eq (v1 : FVec Ideal S1024x128 .f32) (v30 : FVec Ideal S128x2 .f32) (v34 v38 v42 v46 v50 v54 v58 v62 v66 v70 v74 v78 v82 v90 v97 : FVec Ideal S1024x2 .f32) (v103 : FVec Ideal S1024x128 .f32)
    (c : FVec Ideal S1024x2 .f32) (v105 : Vec Ideal S1x2048x128 .f32) :
    k5_pay30 (k5_pay26 v1 v30 v34 v38 v42 v46 v50 v54 v58 v62 v66 v70 v74 v78 v82 v90 v97 v103 c v105)
      (iota .tc S1024x18 32 [1] iota_S1024x18_d1_w32)
      (k5_pay27 v1 v30 v34 v38 v42 v46 v50 v54 v58 v62 v66 v70 v74 v78 v82 v90 v97 v103 c v105)
      (k5_pay28 v1 v30 v34 v38 v42 v46 v50 v54 v58 v62 v66 v70 v74 v78 v82 v90 v97 v103 c v105)
      (k5_pay29 v1 v30 v34 v38 v42 v46 v50 v54 v58 v62 v66 v70 v74 v78 v82 v90 v97 v103 c v105)
      = weights (k5_pay26 v1 v30 v34 v38 v42 v46 v50 v54 v58 v62 v66 v70 v74 v78 v82 v90 v97 v103 c v105) := by
  rw [pay27_eq, pay28_eq, pay29_eq]
  generalize k5_pay26 v1 v30 v34 v38 v42 v46 v50 v54 v58 v62 v66 v70 v74 v78 v82 v90 v97 v103 c v105 = S
  funext i
  idx_vars i
  unfold weights Attn.weight Attn.expKept Attn.keep
  pointwise [k5_pay30, inf_eq, ninf_eq]
  rw [lastWord_ite (Attn.raised (row S i0))]
  rfl

/-- Head 1: the last with the least score. -/
theorem pay32_eq (v34 v38 v42 v46 v50 v54 v58 v62 v66 v70 v74 v78 v82 v90 v97 v104 v111 v115 : FVec Ideal S1024x2 .f32) :
    k5_pay32 v34 v38 v42 v46 v50 v54 v58 v62 v66 v70 v74 v78 v82 v90 v97 v104 v111 v115
      = fun i => Attn.lastWord (row (k5_pay31 v34 v38 v42 v46 v50 v54 v58 v62 v66 v70 v74 v78 v82 v90 v97 v104 v111 v115) (i 0)) := by
  funext i
  unfold k5_pay32
  generalize k5_pay31 v34 v38 v42 v46 v50 v54 v58 v62 v66 v70 v74 v78 v82 v90 v97 v104 v111 v115 = S
  idx_vars i
  unfold Attn.lastWord row
  pointwise [inf_eq]

/-- Head 1: the weights. -/
theorem pay33_eq (S : FVec Ideal S1024x18 .f32) :
    k5_pay33 S (iota .tc S1024x18 32 [1] iota_S1024x18_d1_w32) (fun i => Attn.lastWord (row S (i 0))) = weights S := by
  funext i
  idx_vars i
  unfold weights Attn.weight Attn.expKept Attn.keep
  pointwise [k5_pay33, inf_eq, ninf_eq]
  rw [lastWord_ite (fun x => Scalar.select (IntOp.cmpi CmpIPredicate.eq (BitVec.ofNat 32 x.val) (Attn.lastWord (row S i0))) ⊤ (S (ix2 i0 x)))]
  rfl

end Cert.KernelIdeal.Stage
-- ==== Proof.Block.lean ====
/- Region 5's body on one block: the scores of the eighteen candidates, and the weighted sum of their values. -/
module

public import proofs.«01_k».proof.Proof.RunIdeal.Region5
public import proofs.«01_k».proof.Proof.Stage

@[expose] public section

set_option maxRecDepth 16384

noncomputable section

namespace Cert.KernelIdeal.Block

open Cert.KernelIdeal Cert.KernelIdeal.Gen Cert.KernelIdeal.Run Cert.KernelIdeal.Stage
open Idealize.ShloMosaic Idealize.ShloMosaic.TcCoe
open scoped BigOperators

/-- The rows of candidate `j` in the three blocks: thirteen shifts of the first, three of the second at half the pace, and the two
    rows of the third at twice the pace. -/
def rows (x : Vec Ideal S1x1036x128 .f32) (y : Vec Ideal S1x514x128 .f32) (z : Vec Ideal S1x2048x128 .f32) (j : Fin 18) :
    FVec Ideal S1024x128 .f32 := fun i =>
  if h : j.val < 13 then x (ix3 0 ⟨(i 0).val + j.val, by have h' : (i 0).val < 1024 := (i 0).isLt; omega⟩ (i 1))
  else if h : j.val < 16 then
    y (ix3 0 ⟨(i 0).val / 2 + (if j.val = 13 then 1 else if j.val = 14 then 0 else 2),
      by have h' : (i 0).val < 1024 := (i 0).isLt; split <;> [skip; split] <;> omega⟩ (i 1))
  else z (ix3 0 ⟨2 * (i 0).val + (j.val - 16), by have h' : (i 0).val < 1024 := (i 0).isLt; omega⟩ (i 1))

/-- The query rows of a block. -/
def queries (x0 : Vec Ideal S1x1024x128 .f32) : FVec Ideal S1024x128 .f32 := fun i => x0 (ix3 0 (i 0) (i 1))

/-- The products of the queries with candidate `j`'s keys, summed by head. -/
def prods (x0 : Vec Ideal S1x1024x128 .f32) (x : Vec Ideal S1x1036x128 .f32) (y : Vec Ideal S1x514x128 .f32)
    (z : Vec Ideal S1x2048x128 .f32) (j : Fin 18) : FVec Ideal S1024x2 .f32 :=
  heads fun i => (queries x0 i : EReal) * rows x y z j i

/-- An eighth of head `h`'s products, candidate by candidate. -/
def scores (P : Fin 18 → FVec Ideal S1024x2 .f32) (h : Fin 2) : FVec Ideal S1024x18 .f32 :=
  fun i => (P (i 1) (ix2 (i 0) h) : EReal) * Ideal.ofBits .f32 0x3E000000#32

/-! ## The products -/

theorem pay50_eq (x0 : Vec Ideal S1x1024x128 .f32) (x1 x2 : Vec Ideal S1x1036x128 .f32) (x3 x4 : Vec Ideal S1x514x128 .f32) (x5 x6 : Vec Ideal S1x2048x128 .f32) :
    k5_pay50 x0 x1 x2 x3 x4 x5 x6 = prods x0 x1 x3 x5 0 := by
  unfold k5_pay50 k5_pay4
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay51_eq (x0 : Vec Ideal S1x1024x128 .f32) (x1 x2 : Vec Ideal S1x1036x128 .f32) (x3 x4 : Vec Ideal S1x514x128 .f32) (x5 x6 : Vec Ideal S1x2048x128 .f32) :
    k5_pay51 x0 x1 x2 x3 x4 x5 x6 = prods x0 x1 x3 x5 1 := by
  unfold k5_pay51 k5_pay5
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay52_eq (x0 : Vec Ideal S1x1024x128 .f32) (x1 x2 : Vec Ideal S1x1036x128 .f32) (x3 x4 : Vec Ideal S1x514x128 .f32) (x5 x6 : Vec Ideal S1x2048x128 .f32) :
    k5_pay52 x0 x1 x2 x3 x4 x5 x6 = prods x0 x1 x3 x5 2 := by
  unfold k5_pay52 k5_pay6
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay53_eq (x0 : Vec Ideal S1x1024x128 .f32) (x1 x2 : Vec Ideal S1x1036x128 .f32) (x3 x4 : Vec Ideal S1x514x128 .f32) (x5 x6 : Vec Ideal S1x2048x128 .f32) :
    k5_pay53 x0 x1 x2 x3 x4 x5 x6 = prods x0 x1 x3 x5 3 := by
  unfold k5_pay53 k5_pay7
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay54_eq (x0 : Vec Ideal S1x1024x128 .f32) (x1 x2 : Vec Ideal S1x1036x128 .f32) (x3 x4 : Vec Ideal S1x514x128 .f32) (x5 x6 : Vec Ideal S1x2048x128 .f32) :
    k5_pay54 x0 x1 x2 x3 x4 x5 x6 = prods x0 x1 x3 x5 4 := by
  unfold k5_pay54 k5_pay8
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay55_eq (x0 : Vec Ideal S1x1024x128 .f32) (x1 x2 : Vec Ideal S1x1036x128 .f32) (x3 x4 : Vec Ideal S1x514x128 .f32) (x5 x6 : Vec Ideal S1x2048x128 .f32) :
    k5_pay55 x0 x1 x2 x3 x4 x5 x6 = prods x0 x1 x3 x5 5 := by
  unfold k5_pay55 k5_pay9
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay56_eq (x0 : Vec Ideal S1x1024x128 .f32) (x1 x2 : Vec Ideal S1x1036x128 .f32) (x3 x4 : Vec Ideal S1x514x128 .f32) (x5 x6 : Vec Ideal S1x2048x128 .f32) :
    k5_pay56 x0 x1 x2 x3 x4 x5 x6 = prods x0 x1 x3 x5 6 := by
  unfold k5_pay56 k5_pay10
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay57_eq (x0 : Vec Ideal S1x1024x128 .f32) (x1 x2 : Vec Ideal S1x1036x128 .f32) (x3 x4 : Vec Ideal S1x514x128 .f32) (x5 x6 : Vec Ideal S1x2048x128 .f32) :
    k5_pay57 x0 x1 x2 x3 x4 x5 x6 = prods x0 x1 x3 x5 7 := by
  unfold k5_pay57 k5_pay11
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay58_eq (x0 : Vec Ideal S1x1024x128 .f32) (x1 x2 : Vec Ideal S1x1036x128 .f32) (x3 x4 : Vec Ideal S1x514x128 .f32) (x5 x6 : Vec Ideal S1x2048x128 .f32) :
    k5_pay58 x0 x1 x2 x3 x4 x5 x6 = prods x0 x1 x3 x5 8 := by
  unfold k5_pay58 k5_pay12
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay60_eq (x0 : Vec Ideal S1x1024x128 .f32) (x1 x2 : Vec Ideal S1x1036x128 .f32) (x3 x4 : Vec Ideal S1x514x128 .f32) (x5 x6 : Vec Ideal S1x2048x128 .f32) :
    k5_pay60 x0 x1 x2 x3 x4 x5 x6 = prods x0 x1 x3 x5 9 := by
  unfold k5_pay60 k5_pay14
  simp only [k5_pay48, k5_pay49, sel_eq, k5_pay13]
  rw [matmul_sel]
  refine congrArg heads (funext fun i => ?_)
  idx_vars i
  unfold queries rows
  pointwise [k5_pay2]
  all_goals simp only [Nat.add_comm, Nat.mul_comm]

theorem pay61_eq (x0 : Vec Ideal S1x1024x128 .f32) (x1 x2 : Vec Ideal S1x1036x128 .f32) (x3 x4 : Vec Ideal S1x514x128 .f32) (x5 x6 : Vec Ideal S1x2048x128 .f32) :
    k5_pay61 x0 x1 x2 x3 x4 x5 x6 = prods x0 x1 x3 x5 10 := by
  unfold k5_pay61 k5_pay15
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay62_eq (x0 : Vec Ideal S1x1024x128 .f32) (x1 x2 : Vec Ideal S1x1036x128 .f32) (x3 x4 : Vec Ideal S1x514x128 .f32) (x5 x6 : Vec Ideal S1x2048x128 .f32) :
    k5_pay62 x0 x1 x2 x3 x4 x5 x6 = prods x0 x1 x3 x5 11 := by
  unfold k5_pay62 k5_pay16
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay63_eq (x0 : Vec Ideal S1x1024x128 .f32) (x1 x2 : Vec Ideal S1x1036x128 .f32) (x3 x4 : Vec Ideal S1x514x128 .f32) (x5 x6 : Vec Ideal S1x2048x128 .f32) :
    k5_pay63 x0 x1 x2 x3 x4 x5 x6 = prods x0 x1 x3 x5 12 := by
  unfold k5_pay63 k5_pay17
  simp only [k5_pay48, k5_pay49, sel_eq]
  rw [matmul_sel]
  refine congrArg heads (funext fun i => ?_)
  idx_vars i
  unfold queries rows
  pointwise [k5_pay2]
  all_goals simp only [Nat.add_comm, Nat.mul_comm]

theorem pay64_eq (x0 : Vec Ideal S1x1024x128 .f32) (x1 x2 : Vec Ideal S1x1036x128 .f32) (x3 x4 : Vec Ideal S1x514x128 .f32) (x5 x6 : Vec Ideal S1x2048x128 .f32) :
    k5_pay64 x0 x1 x2 x3 x4 x5 x6 = prods x0 x1 x3 x5 13 := by
  unfold k5_pay64 k5_pay19
  simp only [k5_pay48, k5_pay49, sel_eq, k5_pay18]
  rw [matmul_sel]
  refine congrArg heads (funext fun i => ?_)
  idx_vars i
  unfold queries rows
  pointwise [k5_pay2]
  all_goals simp only [Nat.add_comm, Nat.mul_comm]

theorem pay65_eq (x0 : Vec Ideal S1x1024x128 .f32) (x1 x2 : Vec Ideal S1x1036x128 .f32) (x3 x4 : Vec Ideal S1x514x128 .f32) (x5 x6 : Vec Ideal S1x2048x128 .f32) :
    k5_pay65 x0 x1 x2 x3 x4 x5 x6 = prods x0 x1 x3 x5 14 := by
  unfold k5_pay65 k5_pay20
  simp only [k5_pay48, k5_pay49, sel_eq, k5_pay18]
  rw [matmul_sel]
  refine congrArg heads (funext fun i => ?_)
  idx_vars i
  unfold queries rows
  pointwise [k5_pay2]
  all_goals simp only [Nat.add_comm, Nat.mul_comm]

theorem pay67_eq (x0 : Vec Ideal S1x1024x128 .f32) (x1 x2 : Vec Ideal S1x1036x128 .f32) (x3 x4 : Vec Ideal S1x514x128 .f32) (x5 x6 : Vec Ideal S1x2048x128 .f32) :
    k5_pay67 x0 x1 x2 x3 x4 x5 x6 = prods x0 x1 x3 x5 15 := by
  unfold k5_pay67 k5_pay22
  simp only [k5_pay48, k5_pay49, sel_eq, k5_pay66, k5_pay59, k5_pay21, k5_pay18]
  rw [matmul_sel]
  refine congrArg heads (funext fun i => ?_)
  idx_vars i
  unfold queries rows
  pointwise [k5_pay2]
  all_goals simp only [Nat.add_comm, Nat.mul_comm]

theorem pay68_eq (x0 : Vec Ideal S1x1024x128 .f32) (x1 x2 : Vec Ideal S1x1036x128 .f32) (x3 x4 : Vec Ideal S1x514x128 .f32) (x5 x6 : Vec Ideal S1x2048x128 .f32) :
    k5_pay68 x0 x1 x2 x3 x4 x5 x6 = prods x0 x1 x3 x5 16 := by
  unfold k5_pay68 k5_pay24
  simp only [k5_pay48, k5_pay49, sel_eq, k5_pay23]
  rw [matmul_sel]
  refine congrArg heads (funext fun i => ?_)
  idx_vars i
  unfold queries rows
  pointwise [k5_pay2]
  all_goals simp only [Nat.add_comm, Nat.mul_comm]

theorem pay69_eq (x0 : Vec Ideal S1x1024x128 .f32) (x1 x2 : Vec Ideal S1x1036x128 .f32) (x3 x4 : Vec Ideal S1x514x128 .f32) (x5 x6 : Vec Ideal S1x2048x128 .f32) :
    k5_pay69 x0 x1 x2 x3 x4 x5 x6 = prods x0 x1 x3 x5 17 := by
  unfold k5_pay69 k5_pay25
  simp only [k5_pay48, k5_pay49, sel_eq, k5_pay23]
  rw [matmul_sel]
  refine congrArg heads (funext fun i => ?_)
  idx_vars i
  unfold queries rows
  pointwise [k5_pay2]
  all_goals simp only [Nat.add_comm, Nat.mul_comm]

/-! ## The scores -/

/-- Eighteen columns side by side, read at an index. -/
theorem joined (f : Fin 18 → FVec Ideal S1024x1 .f32)
    (h : Shape.Concatenates ((List.ofFn fun n : Fin 18 => (⟨S1024x1, f n⟩ : (s : Shape) × (s.Idx → Ideal .f32))).map (·.1)) S1024x18 1) :
    concatenate S1024x18 1 (List.ofFn fun n : Fin 18 => (⟨S1024x1, f n⟩ : (s : Shape) × (s.Idx → Ideal .f32))) h
      = fun i => f (i 1) (ix2 (i 0) 0) := by
  funext i
  idx_vars i
  pointwise

/-- One column of an array of two, as an array. -/
theorem column (v : FVec Ideal S1024x2 .f32) (h : Fin 2) (hs : S1024x2.Slices ![0, h.val] S1024x1) (l : Fin 1024) :
    extractStridedSlice S1024x1 ![0, h.val] v hs (ix2 l 0) = v (ix2 l h) := by
  pointwise

set_option maxHeartbeats 4000000 in
theorem pay26_eq (v1 : FVec Ideal S1024x128 .f32) (v30 : FVec Ideal S128x2 .f32) (v34 v38 v42 v46 v50 v54 v58 v62 v66 v70 v74 v78 v82 v90 v97 : FVec Ideal S1024x2 .f32) (v103 : FVec Ideal S1024x128 .f32)
    (c : FVec Ideal S1024x2 .f32) (v105 : Vec Ideal S1x2048x128 .f32) :
    k5_pay26 v1 v30 v34 v38 v42 v46 v50 v54 v58 v62 v66 v70 v74 v78 v82 v90 v97 v103 c v105
      = scores ![v34, v38, v42, v46, v50, v54, v58, v62, v66, v70, v74, v78, v82, v90, v97,
          k5_pay22 v30 v103 c, k5_pay24 v1 v30 v105, k5_pay25 v1 v30 v105] 0 := by
  unfold k5_pay26
  generalize k5_pay22 v30 v103 c = v104
  generalize k5_pay24 v1 v30 v105 = v111
  generalize k5_pay25 v1 v30 v105 = v115
  refine (congrArg (fun v => mulf v (broadcast S1024x18 (FloatOps.ofBits .f32 0x3E000000#32)))
    (joined ![extractStridedSlice S1024x1 ![0, 0] v34 slices_S1024x2_o0_0_S1024x1,
      extractStridedSlice S1024x1 ![0, 0] v38 slices_S1024x2_o0_0_S1024x1,
      extractStridedSlice S1024x1 ![0, 0] v42 slices_S1024x2_o0_0_S1024x1,
      extractStridedSlice S1024x1 ![0, 0] v46 slices_S1024x2_o0_0_S1024x1,
      extractStridedSlice S1024x1 ![0, 0] v50 slices_S1024x2_o0_0_S1024x1,
      extractStridedSlice S1024x1 ![0, 0] v54 slices_S1024x2_o0_0_S1024x1,
      extractStridedSlice S1024x1 ![0, 0] v58 slices_S1024x2_o0_0_S1024x1,
      extractStridedSlice S1024x1 ![0, 0] v62 slices_S1024x2_o0_0_S1024x1,
      extractStridedSlice S1024x1 ![0, 0] v66 slices_S1024x2_o0_0_S1024x1,
      extractStridedSlice S1024x1 ![0, 0] v70 slices_S1024x2_o0_0_S1024x1,
      extractStridedSlice S1024x1 ![0, 0] v74 slices_S1024x2_o0_0_S1024x1,
      extractStridedSlice S1024x1 ![0, 0] v78 slices_S1024x2_o0_0_S1024x1,
      extractStridedSlice S1024x1 ![0, 0] v82 slices_S1024x2_o0_0_S1024x1,
      extractStridedSlice S1024x1 ![0, 0] v90 slices_S1024x2_o0_0_S1024x1,
      extractStridedSlice S1024x1 ![0, 0] v97 slices_S1024x2_o0_0_S1024x1,
      extractStridedSlice S1024x1 ![0, 0] v104 slices_S1024x2_o0_0_S1024x1,
      extractStridedSlice S1024x1 ![0, 0] v111 slices_S1024x2_o0_0_S1024x1,
      extractStridedSlice S1024x1 ![0, 0] v115 slices_S1024x2_o0_0_S1024x1] concatenates_S1024x1_S1024x1_S1024x1_S1024x1_S1024x1_S1024x1_S1024x1_S1024x1_S1024x1_S1024x1_S1024x1_S1024x1_S1024x1_S1024x1_S1024x1_S1024x1_S1024x1_S1024x1_S1024x18_d1)).trans ?_
  funext i
  obtain ⟨l, j, rfl⟩ : ∃ (l : Fin 1024) (j : Fin 18), i = ix2 l j := ⟨i 0, i 1, eq_ix2 i⟩
  unfold scores
  refine congrArg (fun x : EReal => x * Ideal.ofBits .f32 0x3E000000#32) ?_
  fin_cases j <;> exact column _ 0 slices_S1024x2_o0_0_S1024x1 l

set_option maxHeartbeats 4000000 in
theorem pay31_eq (v34 v38 v42 v46 v50 v54 v58 v62 v66 v70 v74 v78 v82 v90 v97 v104 v111 v115 : FVec Ideal S1024x2 .f32) :
    k5_pay31 v34 v38 v42 v46 v50 v54 v58 v62 v66 v70 v74 v78 v82 v90 v97 v104 v111 v115
      = scores ![v34, v38, v42, v46, v50, v54, v58, v62, v66, v70, v74, v78, v82, v90, v97, v104, v111, v115] 1 := by
  unfold k5_pay31
  refine (congrArg (fun v => mulf v (broadcast S1024x18 (FloatOps.ofBits .f32 0x3E000000#32)))
    (joined ![extractStridedSlice S1024x1 ![0, 1] v34 slices_S1024x2_o0_1_S1024x1,
      extractStridedSlice S1024x1 ![0, 1] v38 slices_S1024x2_o0_1_S1024x1,
      extractStridedSlice S1024x1 ![0, 1] v42 slices_S1024x2_o0_1_S1024x1,
      extractStridedSlice S1024x1 ![0, 1] v46 slices_S1024x2_o0_1_S1024x1,
      extractStridedSlice S1024x1 ![0, 1] v50 slices_S1024x2_o0_1_S1024x1,
      extractStridedSlice S1024x1 ![0, 1] v54 slices_S1024x2_o0_1_S1024x1,
      extractStridedSlice S1024x1 ![0, 1] v58 slices_S1024x2_o0_1_S1024x1,
      extractStridedSlice S1024x1 ![0, 1] v62 slices_S1024x2_o0_1_S1024x1,
      extractStridedSlice S1024x1 ![0, 1] v66 slices_S1024x2_o0_1_S1024x1,
      extractStridedSlice S1024x1 ![0, 1] v70 slices_S1024x2_o0_1_S1024x1,
      extractStridedSlice S1024x1 ![0, 1] v74 slices_S1024x2_o0_1_S1024x1,
      extractStridedSlice S1024x1 ![0, 1] v78 slices_S1024x2_o0_1_S1024x1,
      extractStridedSlice S1024x1 ![0, 1] v82 slices_S1024x2_o0_1_S1024x1,
      extractStridedSlice S1024x1 ![0, 1] v90 slices_S1024x2_o0_1_S1024x1,
      extractStridedSlice S1024x1 ![0, 1] v97 slices_S1024x2_o0_1_S1024x1,
      extractStridedSlice S1024x1 ![0, 1] v104 slices_S1024x2_o0_1_S1024x1,
      extractStridedSlice S1024x1 ![0, 1] v111 slices_S1024x2_o0_1_S1024x1,
      extractStridedSlice S1024x1 ![0, 1] v115 slices_S1024x2_o0_1_S1024x1] concatenates_S1024x1_S1024x1_S1024x1_S1024x1_S1024x1_S1024x1_S1024x1_S1024x1_S1024x1_S1024x1_S1024x1_S1024x1_S1024x1_S1024x1_S1024x1_S1024x1_S1024x1_S1024x1_S1024x18_d1)).trans ?_
  funext i
  obtain ⟨l, j, rfl⟩ : ∃ (l : Fin 1024) (j : Fin 18), i = ix2 l j := ⟨i 0, i 1, eq_ix2 i⟩
  unfold scores
  refine congrArg (fun x : EReal => x * Ideal.ofBits .f32 0x3E000000#32) ?_
  fin_cases j <;> exact column _ 1 slices_S1024x2_o0_1_S1024x1 l

/-- A function on eighteen indices, written as its list of values. -/
theorem listed {α : Type} (P : Fin 18 → α) :
    ![P 0, P 1, P 2, P 3, P 4, P 5, P 6, P 7, P 8, P 9, P 10, P 11, P 12, P 13, P 14, P 15, P 16, P 17] = P := by
  funext j
  fin_cases j <;> rfl

/-- The first head's weights. -/
theorem pay70_eq (x0 : Vec Ideal S1x1024x128 .f32) (x1 x2 : Vec Ideal S1x1036x128 .f32) (x3 x4 : Vec Ideal S1x514x128 .f32) (x5 x6 : Vec Ideal S1x2048x128 .f32) :
    k5_pay70 x0 x1 x2 x3 x4 x5 x6 = weights (scores (prods x0 x1 x3 x5) 0) := by
  unfold k5_pay70
  rw [pay30_eq, pay26_eq]
  have e67 := pay67_eq x0 x1 x2 x3 x4 x5 x6
  have e68 := pay68_eq x0 x1 x2 x3 x4 x5 x6
  have e69 := pay69_eq x0 x1 x2 x3 x4 x5 x6
  unfold k5_pay67 at e67
  unfold k5_pay68 at e68
  unfold k5_pay69 at e69
  rw [e67, e68, e69]
  simp only [pay50_eq, pay51_eq, pay52_eq, pay53_eq, pay54_eq, pay55_eq, pay56_eq, pay57_eq, pay58_eq, pay60_eq, pay61_eq, pay62_eq, pay63_eq, pay64_eq, pay65_eq, pay67_eq, pay68_eq, pay69_eq]
  exact congrArg (fun P => weights (scores P 0)) (listed (prods x0 x1 x3 x5))

/-- The second head's weights. -/
theorem pay71_eq (x0 : Vec Ideal S1x1024x128 .f32) (x1 x2 : Vec Ideal S1x1036x128 .f32) (x3 x4 : Vec Ideal S1x514x128 .f32) (x5 x6 : Vec Ideal S1x2048x128 .f32) :
    k5_pay71 x0 x1 x2 x3 x4 x5 x6 = weights (scores (prods x0 x1 x3 x5) 1) := by
  unfold k5_pay71
  rw [pay32_eq, pay33_eq, pay31_eq]
  simp only [pay50_eq, pay51_eq, pay52_eq, pay53_eq, pay54_eq, pay55_eq, pay56_eq, pay57_eq, pay58_eq, pay60_eq, pay61_eq, pay62_eq, pay63_eq, pay64_eq, pay65_eq, pay67_eq, pay68_eq, pay69_eq]
  exact congrArg (fun P => weights (scores P 1)) (listed (prods x0 x1 x3 x5))

/-! ## The weighted sum -/

/-- Column `j` of the two heads' weights, as an array of two columns. -/
def both (w0 w1 : FVec Ideal S1024x18 .f32) (j : Fin 18) : FVec Ideal S1024x2 .f32 :=
  fun i => if (i 1).val < 1 then w0 (ix2 (i 0) j) else w1 (ix2 (i 0) j)

theorem both_eq (w0 w1 : FVec Ideal S1024x18 .f32) (j : Fin 18) (o : ℕ) (ho : o = j.val) (hs : S1024x18.Slices ![0, o] S1024x1) :
    concatenate S1024x2 1 [⟨S1024x1, extractStridedSlice S1024x1 ![0, o] w0 hs⟩,
        ⟨S1024x1, extractStridedSlice S1024x1 ![0, o] w1 hs⟩] concatenates_S1024x1_S1024x1_S1024x2_d1
      = both w0 w1 j := by
  subst ho
  funext i
  idx_vars i
  unfold both
  pointwise
  split
  · next h => exact congrArg (fun k => w0 (ix2 i0 k)) (Fin.ext (show j.val + i1.val = j.val by omega))
  · next h => exact congrArg (fun k => w1 (ix2 i0 k)) (Fin.ext (show j.val + (i1.val - 1) = j.val by omega))

/-- A sum of eighteen terms, written out. -/
theorem sum_eighteen (f : Fin 18 → EReal) :
    ∑ j, f j = f 0 + f 1 + f 2 + f 3 + f 4 + f 5 + f 6 + f 7 + f 8 + f 9 + f 10 + f 11 + f 12 + f 13 + f 14 + f 15 + f 16 + f 17 := by
  simp only [Fin.sum_univ_castSucc, Fin.sum_univ_zero, zero_add]
  rfl

/-- The transposed selection. -/
abbrev selt : FVec Ideal S2x128 .f32 := fun i => sel (ix2 (i 1) (i 0))

theorem pay39_eq (w0 w1 : FVec Ideal S1024x18 .f32) (v262 v269 v277 v285 : Vec Ideal S1x1024x128 .f32) :
    k5_pay39 (iota .tc S128x2 32 [1] iota_S128x2_d1_w32) w0 w1 (k5_pay34 (iota .tc S128x2 32 [0] iota_S128x2_d0_w32)) (k5_pay35 (iota .tc S128x2 32 [0] iota_S128x2_d0_w32)) (k5_pay36 (iota .tc S128x2 32 [0] iota_S128x2_d0_w32)) k5_pay37 v262 v269 v277 v285
      = fun i => (wide (both w0 w1 0) i : EReal) * v262 (ix3 0 (i 0) (i 1)) + (wide (both w0 w1 1) i : EReal) * v269 (ix3 0 (i 0) (i 1)) + (wide (both w0 w1 2) i : EReal) * v277 (ix3 0 (i 0) (i 1)) + (wide (both w0 w1 3) i : EReal) * v285 (ix3 0 (i 0) (i 1)) := by
  unfold k5_pay39
  rw [selt_eq]
  dsimp only
  rw [both_eq _ _ 0 0 rfl slices_S1024x18_o0_0_S1024x1, matmul_selt]
  rw [both_eq _ _ 1 1 rfl slices_S1024x18_o0_1_S1024x1, matmul_selt]
  rw [both_eq _ _ 2 2 rfl slices_S1024x18_o0_2_S1024x1, matmul_selt]
  rw [both_eq _ _ 3 3 rfl slices_S1024x18_o0_3_S1024x1, matmul_selt]
  funext i
  idx_vars i
  pointwise

theorem pay41_eq (w0 w1 : FVec Ideal S1024x18 .f32) (acc : FVec Ideal S1024x128 .f32) (v293 v301 v309 v317 v325 : Vec Ideal S1x1024x128 .f32) :
    k5_pay41 w0 w1 selt acc (k5_pay40 w0 w1) v293 v301 v309 v317 v325
      = fun i => (acc i : EReal) + (wide (both w0 w1 4) i : EReal) * v293 (ix3 0 (i 0) (i 1)) + (wide (both w0 w1 5) i : EReal) * v301 (ix3 0 (i 0) (i 1)) + (wide (both w0 w1 6) i : EReal) * v309 (ix3 0 (i 0) (i 1)) + (wide (both w0 w1 7) i : EReal) * v317 (ix3 0 (i 0) (i 1)) + (wide (both w0 w1 8) i : EReal) * v325 (ix3 0 (i 0) (i 1)) := by
  unfold k5_pay41 k5_pay40
  dsimp only
  rw [both_eq _ _ 4 4 rfl slices_S1024x18_o0_4_S1024x1, matmul_selt]
  rw [both_eq _ _ 5 5 rfl slices_S1024x18_o0_5_S1024x1, matmul_selt]
  rw [both_eq _ _ 6 6 rfl slices_S1024x18_o0_6_S1024x1, matmul_selt]
  rw [both_eq _ _ 7 7 rfl slices_S1024x18_o0_7_S1024x1, matmul_selt]
  rw [both_eq _ _ 8 8 rfl slices_S1024x18_o0_8_S1024x1, matmul_selt]
  funext i
  idx_vars i
  pointwise

theorem pay43_eq (w0 w1 : FVec Ideal S1024x18 .f32) (acc : FVec Ideal S1024x128 .f32) (v333 v341 v349 v357 : Vec Ideal S1x1024x128 .f32) :
    k5_pay43 w0 w1 selt acc (k5_pay42 w0 w1) v333 v341 v349 v357
      = fun i => (acc i : EReal) + (wide (both w0 w1 9) i : EReal) * v333 (ix3 0 (i 0) (i 1)) + (wide (both w0 w1 10) i : EReal) * v341 (ix3 0 (i 0) (i 1)) + (wide (both w0 w1 11) i : EReal) * v349 (ix3 0 (i 0) (i 1)) + (wide (both w0 w1 12) i : EReal) * v357 (ix3 0 (i 0) (i 1)) := by
  unfold k5_pay43 k5_pay42
  dsimp only
  rw [both_eq _ _ 9 9 rfl slices_S1024x18_o0_9_S1024x1, matmul_selt]
  rw [both_eq _ _ 10 10 rfl slices_S1024x18_o0_10_S1024x1, matmul_selt]
  rw [both_eq _ _ 11 11 rfl slices_S1024x18_o0_11_S1024x1, matmul_selt]
  rw [both_eq _ _ 12 12 rfl slices_S1024x18_o0_12_S1024x1, matmul_selt]
  funext i
  idx_vars i
  pointwise

theorem pay44_eq (w0 w1 : FVec Ideal S1024x18 .f32) (v361 : Vec Ideal S1x512x128 .f32) :
    k5_pay44 w0 w1 selt v361
      = fun i => (wide (both w0 w1 13) i : EReal) * v361 (ix3 0 ⟨(i 0).val / 2, by have h : (i 0).val < 1024 := (i 0).isLt; omega⟩ (i 1)) := by
  unfold k5_pay44
  dsimp only
  rw [both_eq _ _ 13 13 rfl slices_S1024x18_o0_13_S1024x1, matmul_selt]
  funext i
  idx_vars i
  pointwise

theorem pay45_eq (w0 w1 : FVec Ideal S1024x18 .f32) (acc v371 : FVec Ideal S1024x128 .f32) (v373 v385 : Vec Ideal S1x512x128 .f32)
    (v397 : Vec Ideal S1x2048x128 .f32) :
    k5_pay45 w0 w1 selt acc v371 v373 v385 v397
      = fun i => (acc i : EReal) + v371 i
          + (wide (both w0 w1 14) i : EReal) * v373 (ix3 0 ⟨(i 0).val / 2, by have h : (i 0).val < 1024 := (i 0).isLt; omega⟩ (i 1))
          + (wide (both w0 w1 15) i : EReal) * v385 (ix3 0 ⟨(i 0).val / 2, by have h : (i 0).val < 1024 := (i 0).isLt; omega⟩ (i 1))
          + (wide (both w0 w1 16) i : EReal) * v397 (ix3 0 ⟨(i 0).val * 2, by have h : (i 0).val < 1024 := (i 0).isLt; omega⟩ (i 1))
          + (wide (both w0 w1 17) i : EReal) * v397 (ix3 0 ⟨(i 0).val * 2 + 1, by have h : (i 0).val < 1024 := (i 0).isLt; omega⟩ (i 1)) := by
  unfold k5_pay45
  dsimp only
  rw [both_eq _ _ 14 14 rfl slices_S1024x18_o0_14_S1024x1, matmul_selt]
  rw [both_eq _ _ 15 15 rfl slices_S1024x18_o0_15_S1024x1, matmul_selt]
  rw [both_eq _ _ 16 16 rfl slices_S1024x18_o0_16_S1024x1, matmul_selt]
  rw [both_eq _ _ 17 17 rfl slices_S1024x18_o0_17_S1024x1, matmul_selt]
  funext i
  idx_vars i
  pointwise

/-- Region 5's block: each row's eighteen weights against the eighteen candidates' values. -/
theorem out5_eq (x0 : Vec Ideal S1x1024x128 .f32) (x1 x2 : Vec Ideal S1x1036x128 .f32) (x3 x4 : Vec Ideal S1x514x128 .f32) (x5 x6 : Vec Ideal S1x2048x128 .f32) :
    out5_7 x0 x1 x2 x3 x4 x5 x6 = fun i => ∑ j : Fin 18,
      (wide (both (weights (scores (prods x0 x1 x3 x5) 0)) (weights (scores (prods x0 x1 x3 x5) 1)) j) (ix2 (i 1) (i 2)) : EReal)
        * rows x2 x4 x6 j (ix2 (i 1) (i 2)) := by
  have et : k5_pay76 x0 x1 x2 x3 x4 x5 x6 = selt := selt_eq
  unfold out5_7
  rw [View.canon_unit_zero (by funext a; fin_cases a <;> rfl), et, pay70_eq, pay71_eq]
  generalize weights (scores (prods x0 x1 x3 x5) 0) = w0
  generalize weights (scores (prods x0 x1 x3 x5) 1) = w1
  unfold k5_pay47 k5_pay72 k5_pay73 k5_pay74 k5_pay75 k5_pay46
  rw [pay39_eq, pay41_eq, pay43_eq, pay44_eq, pay45_eq]
  funext i
  idx_vars i
  obtain rfl : i0 = 0 := Subsingleton.elim _ _
  refine Eq.trans ?_ (sum_eighteen _).symm
  unfold rows
  pointwise [k5_pay1]
  all_goals simp only [Nat.add_comm, Nat.mul_comm]

end Cert.KernelIdeal.Block
-- ==== Proof.Heads.lean ====
/- Region 5's array: what each element of the attention output is, as one function of the four arrays the region reads. -/
module

public import proofs.«01_k».proof.Proof.Block
public import Idealize.ShloMosaic.Lib.Pipeline.ValueKit

@[expose] public section

set_option maxRecDepth 16384

noncomputable section

namespace Cert.KernelIdeal.Heads

open Cert.KernelIdeal Cert.KernelIdeal.Gen Cert.KernelIdeal.Run Cert.KernelIdeal.Stage Cert.KernelIdeal.Block
open Idealize.ShloMosaic Idealize.ShloMosaic.TcCoe
open scoped BigOperators

/-- Column `d` of head `h` of a block of two heads. -/
abbrev colb (h : Fin 2) (d : Fin 64) : Fin 128 := ⟨64 * h.val + d.val, by omega⟩

/-- A head's weights on a block, spelt out. -/
theorem weights_block (x0 : Vec Ideal S1x1024x128 .f32) (x1 : Vec Ideal S1x1036x128 .f32) (x3 : Vec Ideal S1x514x128 .f32)
    (x5 : Vec Ideal S1x2048x128 .f32) (h : Fin 2) (l : Fin 1024) (j : Fin 18) :
    weights (scores (prods x0 x1 x3 x5) h) (ix2 l j) = Attn.weight (fun j' => (∑ d : Fin 64,
      (queries x0 (ix2 l (colb h d)) : EReal) * rows x1 x3 x5 j' (ix2 l (colb h d))) * Ideal.ofBits .f32 0x3E000000#32) j := rfl

/-- The weights spread over a head's columns. -/
theorem wide_both (S : Fin 2 → FVec Ideal S1024x18 .f32) (j : Fin 18) (l : Fin 1024) (n : Fin 128) :
    wide (both (S 0) (S 1) j) (ix2 l n) = S ⟨n.val / 64, by omega⟩ (ix2 l j) := by
  show (if n.val / 64 < 1 then S 0 (ix2 l j) else S 1 (ix2 l j)) = _
  split
  · next h => exact congrArg (fun k => S k (ix2 l j)) (Fin.ext (show (0 : ℕ) = n.val / 64 by omega))
  · next h => exact congrArg (fun k => S k (ix2 l j)) (Fin.ext (show (1 : ℕ) = n.val / 64 by omega))

/-- Column `k` of candidate `j` of row `l`, in the three padded arrays. -/
def rowAt (K : FVec Ideal ⟨3, ![2, 1036, 2048]⟩ .f32) (P : FVec Ideal ⟨3, ![2, 514, 2048]⟩ .f32)
    (C : FVec Ideal ⟨3, ![2, 2048, 2048]⟩ .f32) (b : Fin 2) (l : Fin 1024) (j : Fin 18) (k : Fin 2048) : EReal :=
  if h : j.val < 13 then K (ix3 b ⟨l.val + j.val, by omega⟩ k)
  else if h : j.val < 16 then
    P (ix3 b ⟨l.val / 2 + (if j.val = 13 then 1 else if j.val = 14 then 0 else 2), by split <;> [skip; split] <;> omega⟩ k)
  else C (ix3 b ⟨2 * l.val + (j.val - 16), by omega⟩ k)

/-- Column `d` of the head that column `n` belongs to. -/
abbrev same (n : Fin 1024) (d : Fin 64) : Fin 1024 := ⟨64 * (n.val / 64) + d.val, by omega⟩

/-- The attention over the arrays: keys in the left half of the columns, values in the right half. -/
def attended (Q : FVec Ideal ⟨3, ![2, 1024, 1024]⟩ .f32) (K : FVec Ideal ⟨3, ![2, 1036, 2048]⟩ .f32)
    (P : FVec Ideal ⟨3, ![2, 514, 2048]⟩ .f32) (C : FVec Ideal ⟨3, ![2, 2048, 2048]⟩ .f32) (b : Fin 2) (l n : Fin 1024) : EReal :=
  ∑ j : Fin 18, Attn.weight (fun j' => (∑ d : Fin 64, (Q (ix3 b l (same n d)) : EReal) *
      rowAt K P C b l j' ⟨(same n d).val, by omega⟩) * Ideal.ofBits .f32 0x3E000000#32) j
    * rowAt K P C b l j ⟨1024 + n.val, by omega⟩

/-- A block's row of a candidate is the arrays' row, when the blocks are the arrays' columns from `o` on. -/
theorem rows_of {x : Vec Ideal S1x1036x128 .f32} {y : Vec Ideal S1x514x128 .f32} {z : Vec Ideal S1x2048x128 .f32}
    {K : FVec Ideal ⟨3, ![2, 1036, 2048]⟩ .f32} {P : FVec Ideal ⟨3, ![2, 514, 2048]⟩ .f32}
    {C : FVec Ideal ⟨3, ![2, 2048, 2048]⟩ .f32} {b : Fin 2} (o : ℕ) (ho : o ≤ 1920)
    (hx : ∀ r (k : Fin 128), x (ix3 0 r k) = K (ix3 b r ⟨o + k.val, by omega⟩))
    (hy : ∀ r (k : Fin 128), y (ix3 0 r k) = P (ix3 b r ⟨o + k.val, by omega⟩))
    (hz : ∀ r (k : Fin 128), z (ix3 0 r k) = C (ix3 b r ⟨o + k.val, by omega⟩)) (j : Fin 18) (l : Fin 1024) (k : Fin 128)
    (k' : Fin 2048) (hk : k'.val = o + k.val) : rows x y z j (ix2 l k) = rowAt K P C b l j k' := by
  rw [show k' = ⟨o + k.val, by omega⟩ from Fin.ext hk]
  unfold rows rowAt
  split
  · exact hx _ _
  · split
    · exact hy _ _
    · exact hz _ _

/-- A block's element is the arrays' element. -/
theorem block_of {x0 : Vec Ideal S1x1024x128 .f32} {x1 x2 : Vec Ideal S1x1036x128 .f32} {x3 x4 : Vec Ideal S1x514x128 .f32}
    {x5 x6 : Vec Ideal S1x2048x128 .f32} {Q : FVec Ideal ⟨3, ![2, 1024, 1024]⟩ .f32} {K : FVec Ideal ⟨3, ![2, 1036, 2048]⟩ .f32}
    {P : FVec Ideal ⟨3, ![2, 514, 2048]⟩ .f32} {C : FVec Ideal ⟨3, ![2, 2048, 2048]⟩ .f32} {b : Fin 2} {g : ℕ} (hg : g < 8)
    (h0 : ∀ r (k : Fin 128), x0 (ix3 0 r k) = Q (ix3 b r ⟨128 * g + k.val, by omega⟩))
    (h1 : ∀ r (k : Fin 128), x1 (ix3 0 r k) = K (ix3 b r ⟨128 * g + k.val, by omega⟩))
    (h2 : ∀ r (k : Fin 128), x2 (ix3 0 r k) = K (ix3 b r ⟨1024 + 128 * g + k.val, by omega⟩))
    (h3 : ∀ r (k : Fin 128), x3 (ix3 0 r k) = P (ix3 b r ⟨128 * g + k.val, by omega⟩))
    (h4 : ∀ r (k : Fin 128), x4 (ix3 0 r k) = P (ix3 b r ⟨1024 + 128 * g + k.val, by omega⟩))
    (h5 : ∀ r (k : Fin 128), x5 (ix3 0 r k) = C (ix3 b r ⟨128 * g + k.val, by omega⟩))
    (h6 : ∀ r (k : Fin 128), x6 (ix3 0 r k) = C (ix3 b r ⟨1024 + 128 * g + k.val, by omega⟩))
    (y : S1x1024x128.Idx) (l n : Fin 1024) (hl : l.val = (y 1).val) (hn : n.val = 128 * g + (y 2).val) :
    out5_7 x0 x1 x2 x3 x4 x5 x6 y = attended Q K P C b l n := by
  obtain ⟨u, r, k, rfl⟩ : ∃ (u : Fin 1) (r : Fin 1024) (k : Fin 128), y = ix3 u r k := ⟨y 0, y 1, y 2, eq_ix3 y⟩
  obtain rfl : l = r := Fin.ext hl
  replace hn : n.val = 128 * g + k.val := hn
  rw [out5_eq]
  refine Finset.sum_congr rfl fun j _ => ?_
  have e : ∀ d : Fin 64, (same n d).val = 128 * g + (colb ⟨k.val / 64, by omega⟩ d).val := fun d => by
    show 64 * (n.val / 64) + d.val = 128 * g + (64 * (k.val / 64) + d.val)
    omega
  have hw : wide (both (weights (scores (prods x0 x1 x3 x5) 0)) (weights (scores (prods x0 x1 x3 x5) 1)) j) (ix2 l k)
      = Attn.weight (fun j' => (∑ d : Fin 64, (Q (ix3 b l (same n d)) : EReal) *
          rowAt K P C b l j' ⟨(same n d).val, by omega⟩) * Ideal.ofBits .f32 0x3E000000#32) j := by
    refine ((wide_both (fun h => weights (scores (prods x0 x1 x3 x5) h)) j l k).trans (weights_block x0 x1 x3 x5 _ l j)).trans ?_
    refine congrArg (fun s => Attn.weight s j) (funext fun j' => congrArg (fun a : EReal => a * Ideal.ofBits .f32 0x3E000000#32)
      (Finset.sum_congr rfl fun d _ => ?_))
    have h0' : queries x0 (ix2 l (colb ⟨k.val / 64, by omega⟩ d)) = Q (ix3 b l (same n d)) :=
      (h0 l _).trans (congrArg (fun k => Q (ix3 b l k)) (Fin.ext (e d).symm))
    rw [h0', rows_of (128 * g) (by omega) h1 h3 h5 j' l _ ⟨(same n d).val, by omega⟩ (e d)]
  have hv : rows x2 x4 x6 j (ix2 l k) = rowAt K P C b l j ⟨1024 + n.val, by omega⟩ :=
    rows_of (1024 + 128 * g) (by omega) h2 h4 h6 j l k _ (show 1024 + n.val = _ by rw [hn]; omega)
  exact (congrArg (fun a : EReal => a * rows x2 x4 x6 j (ix2 l k)) hw).trans (congrArg (fun a : EReal => _ * a) hv)

variable (V : (c : Dev nD) → (b : Ref sig .tc) → Buf (Elt Ideal) ((c : Thread nD τ).loc b))

theorem index5 : ∀ t : Fin cfg5.N, (win5_0.index t (0 : Fin 3) = t.val / 8 ∧ win5_0.index t (1 : Fin 3) = 0 ∧ win5_0.index t (2 : Fin 3) = t.val % 8)
    ∧ (win5_1.index t (0 : Fin 3) = t.val / 8 ∧ win5_1.index t (1 : Fin 3) = 0 ∧ win5_1.index t (2 : Fin 3) = t.val % 8)
    ∧ (win5_2.index t (0 : Fin 3) = t.val / 8 ∧ win5_2.index t (1 : Fin 3) = 0 ∧ win5_2.index t (2 : Fin 3) = 8 + t.val % 8)
    ∧ (win5_3.index t (0 : Fin 3) = t.val / 8 ∧ win5_3.index t (1 : Fin 3) = 0 ∧ win5_3.index t (2 : Fin 3) = t.val % 8)
    ∧ (win5_4.index t (0 : Fin 3) = t.val / 8 ∧ win5_4.index t (1 : Fin 3) = 0 ∧ win5_4.index t (2 : Fin 3) = 8 + t.val % 8)
    ∧ (win5_5.index t (0 : Fin 3) = t.val / 8 ∧ win5_5.index t (1 : Fin 3) = 0 ∧ win5_5.index t (2 : Fin 3) = t.val % 8)
    ∧ (win5_6.index t (0 : Fin 3) = t.val / 8 ∧ win5_6.index t (1 : Fin 3) = 0 ∧ win5_6.index t (2 : Fin 3) = 8 + t.val % 8)
    ∧ (win5_7.index t (0 : Fin 3) = t.val / 8 ∧ win5_7.index t (1 : Fin 3) = 0 ∧ win5_7.index t (2 : Fin 3) = t.val % 8) :=
  (by decide +kernel : ∀ t : Fin grid5.N, _)

theorem window0 (c : Dev nD) (t : Fin cfg5.N) (ht : t.val < 16) (r : Fin 1024) (k : Fin 128) :
    (iblk5 V c 0 t : FVec Ideal ⟨3, ![1, 1024, 128]⟩ .f32) (ix3 0 r k)
      = (V c (Pipeline.arrRef spec5 0) : FVec Ideal ⟨3, ![2, 1024, 1024]⟩ .f32) (ix3 ⟨t.val / 8, by omega⟩ r ⟨128 * (t.val % 8) + k.val, by omega⟩) := by
  obtain ⟨e0, e1, e2⟩ := (index5 t).1
  unfold iblk5
  blk_ext [e0, e1, e2]

theorem window1 (c : Dev nD) (t : Fin cfg5.N) (ht : t.val < 16) (r : Fin 1036) (k : Fin 128) :
    (iblk5 V c 1 t : FVec Ideal ⟨3, ![1, 1036, 128]⟩ .f32) (ix3 0 r k)
      = (V c (Pipeline.arrRef spec5 1) : FVec Ideal ⟨3, ![2, 1036, 2048]⟩ .f32) (ix3 ⟨t.val / 8, by omega⟩ r ⟨128 * (t.val % 8) + k.val, by omega⟩) := by
  obtain ⟨e0, e1, e2⟩ := (index5 t).2.1
  unfold iblk5
  blk_ext [e0, e1, e2]

theorem window2 (c : Dev nD) (t : Fin cfg5.N) (ht : t.val < 16) (r : Fin 1036) (k : Fin 128) :
    (iblk5 V c 2 t : FVec Ideal ⟨3, ![1, 1036, 128]⟩ .f32) (ix3 0 r k)
      = (V c (Pipeline.arrRef spec5 1) : FVec Ideal ⟨3, ![2, 1036, 2048]⟩ .f32) (ix3 ⟨t.val / 8, by omega⟩ r ⟨1024 + 128 * (t.val % 8) + k.val, by omega⟩) := by
  obtain ⟨e0, e1, e2⟩ := (index5 t).2.2.1
  unfold iblk5
  blk_ext [e0, e1, e2]

theorem window3 (c : Dev nD) (t : Fin cfg5.N) (ht : t.val < 16) (r : Fin 514) (k : Fin 128) :
    (iblk5 V c 3 t : FVec Ideal ⟨3, ![1, 514, 128]⟩ .f32) (ix3 0 r k)
      = (V c (Pipeline.arrRef spec5 3) : FVec Ideal ⟨3, ![2, 514, 2048]⟩ .f32) (ix3 ⟨t.val / 8, by omega⟩ r ⟨128 * (t.val % 8) + k.val, by omega⟩) := by
  obtain ⟨e0, e1, e2⟩ := (index5 t).2.2.2.1
  unfold iblk5
  blk_ext [e0, e1, e2]

theorem window4 (c : Dev nD) (t : Fin cfg5.N) (ht : t.val < 16) (r : Fin 514) (k : Fin 128) :
    (iblk5 V c 4 t : FVec Ideal ⟨3, ![1, 514, 128]⟩ .f32) (ix3 0 r k)
      = (V c (Pipeline.arrRef spec5 3) : FVec Ideal ⟨3, ![2, 514, 2048]⟩ .f32) (ix3 ⟨t.val / 8, by omega⟩ r ⟨1024 + 128 * (t.val % 8) + k.val, by omega⟩) := by
  obtain ⟨e0, e1, e2⟩ := (index5 t).2.2.2.2.1
  unfold iblk5
  blk_ext [e0, e1, e2]

theorem window5 (c : Dev nD) (t : Fin cfg5.N) (ht : t.val < 16) (r : Fin 2048) (k : Fin 128) :
    (iblk5 V c 5 t : FVec Ideal ⟨3, ![1, 2048, 128]⟩ .f32) (ix3 0 r k)
      = (V c (Pipeline.arrRef spec5 5) : FVec Ideal ⟨3, ![2, 2048, 2048]⟩ .f32) (ix3 ⟨t.val / 8, by omega⟩ r ⟨128 * (t.val % 8) + k.val, by omega⟩) := by
  obtain ⟨e0, e1, e2⟩ := (index5 t).2.2.2.2.2.1
  unfold iblk5
  blk_ext [e0, e1, e2]

theorem window6 (c : Dev nD) (t : Fin cfg5.N) (ht : t.val < 16) (r : Fin 2048) (k : Fin 128) :
    (iblk5 V c 6 t : FVec Ideal ⟨3, ![1, 2048, 128]⟩ .f32) (ix3 0 r k)
      = (V c (Pipeline.arrRef spec5 5) : FVec Ideal ⟨3, ![2, 2048, 2048]⟩ .f32) (ix3 ⟨t.val / 8, by omega⟩ r ⟨1024 + 128 * (t.val % 8) + k.val, by omega⟩) := by
  obtain ⟨e0, e1, e2⟩ := (index5 t).2.2.2.2.2.2.1
  unfold iblk5
  blk_ext [e0, e1, e2]

/-- What grid point `t` leaves: the attention output's element, at the point's batch and columns. -/
theorem point5 (c : Dev nD) (t : Fin cfg5.N) (ht : t.val < 16) (y : S1x1024x128.Idx) (l n : Fin 1024) (hl : l.val = (y 1).val)
    (hn : n.val = 128 * (t.val % 8) + (y 2).val) :
    out5_7 (iblk5 V c 0 t) (iblk5 V c 1 t) (iblk5 V c 2 t) (iblk5 V c 3 t) (iblk5 V c 4 t) (iblk5 V c 5 t) (iblk5 V c 6 t) y
      = attended (V c (Pipeline.arrRef spec5 0)) (V c (Pipeline.arrRef spec5 1)) (V c (Pipeline.arrRef spec5 3))
          (V c (Pipeline.arrRef spec5 5)) ⟨t.val / 8, by omega⟩ l n :=
  block_of (b := ⟨t.val / 8, by omega⟩) (g := t.val % 8) (by omega) (window0 V c t ht) (window1 V c t ht) (window2 V c t ht)
    (window3 V c t ht) (window4 V c t ht) (window5 V c t ht) (window6 V c t ht) y l n hl hn

theorem attended_congr {Q : FVec Ideal ⟨3, ![2, 1024, 1024]⟩ .f32} {K : FVec Ideal ⟨3, ![2, 1036, 2048]⟩ .f32}
    {P : FVec Ideal ⟨3, ![2, 514, 2048]⟩ .f32} {C : FVec Ideal ⟨3, ![2, 2048, 2048]⟩ .f32} {b b' : Fin 2} {l l' n n' : Fin 1024}
    (hb : b.val = b'.val) (hl : l.val = l'.val) (hn : n.val = n'.val) : attended Q K P C b l n = attended Q K P C b' l' n' := by
  rw [Fin.ext hb, Fin.ext hl, Fin.ext hn]

/-- The attention output. -/
theorem array5 (c : Dev nD) : (dat5 V c).arrAt 7 cfg5.N = fun i => attended (V c (Pipeline.arrRef spec5 0)) (V c (Pipeline.arrRef spec5 1))
    (V c (Pipeline.arrRef spec5 3)) (V c (Pipeline.arrRef spec5 5)) (i 0) (i 1) (i 2) := by
  refine (dat5 V c).arrAt_eq_of_covers 7 _ (by decide +kernel) fun t hf y => ?_
  have ht : t.val < 16 := t.isLt
  obtain ⟨h0, h1, h2⟩ := (index5 t).2.2.2.2.2.2.2
  have hy1 : (y 1).val < 1024 := (y 1).isLt
  have hy2 : (y 2).val < 128 := (y 2).isLt
  blk_simp
  rw [after5_7]
  refine (point5 V c t ht y ⟨(y 1).val, hy1⟩ ⟨128 * (t.val % 8) + (y 2).val, by omega⟩ rfl rfl).trans (attended_congr ?_ ?_ ?_)
  · blk_simp [h0]
  · blk_simp [h1]
  · blk_simp [h2]
    exact congrArg (fun a => a + (y 2).val) (Nat.mul_comm _ _)

end Cert.KernelIdeal.Heads
-- ==== Proof.Chain.lean ====
/- The kernel's arrays, one after another: what each of them holds as a function of the seven arguments, up to the result. -/
module

public import proofs.«01_k».proof.Proof.RunIdeal.Launch
public import proofs.«01_k».proof.Proof.Host
public import proofs.«01_k».proof.Proof.Prep
public import proofs.«01_k».proof.Proof.Products
public import proofs.«01_k».proof.Proof.Heads

@[expose] public section

set_option maxRecDepth 16384

noncomputable section

namespace Cert.KernelIdeal.Chain

open Cert.KernelIdeal Cert.KernelIdeal.Gen Cert.KernelIdeal.Run
open Idealize.ShloMosaic Idealize.ShloMosaic.TcCoe
open scoped BigOperators

variable (m : (l : Loc nD τ sig) → Buf (Elt Ideal) l) (ρ : Dev nD → PrngReg) (c : Dev nD)

/-- The arguments. -/
abbrev X : Spec.Rows := m ((c : Thread nD τ).loc main_arg0)
abbrev Wq : Spec.Weights := m ((c : Thread nD τ).loc main_arg1)
abbrev Wk : Spec.Weights := m ((c : Thread nD τ).loc main_arg2)
abbrev Wv : Spec.Weights := m ((c : Thread nD τ).loc main_arg3)
abbrev Wp : Spec.Weights := m ((c : Thread nD τ).loc main_arg4)
abbrev Ga : Spec.Line := m ((c : Thread nD τ).loc main_arg5)
abbrev Be : Spec.Line := m ((c : Thread nD τ).loc main_arg6)

/-- A row times the key weights, then times the value weights. -/
def pair (r : Fin 1024 → EReal) (A B : Spec.Weights) (n : Fin 2048) : EReal :=
  if h : n.val < 1024 then Spec.times r A ⟨n.val, h⟩ else Spec.times r B ⟨n.val - 1024, by omega⟩

/-! ## The pooled rows -/

theorem at_v0 (b : Fin 2) (s : Fin 512) (p q : Fin 2) (k : Fin 1024) :
    (W1 m ρ c (Proc.devRef .tc main_v0) : FVec Ideal ⟨5, ![2, 512, 2, 2, 1024]⟩ .f32) (ix5 b s p q k)
      = X m c (ix3 b ⟨s.val * 4 + p.val * 2 + q.val, by omega⟩ k) := Stretch.v0_at _ b s p q k

theorem at_pairs (b : Fin 2) (s : Fin 512) (p : Fin 2) (k : Fin 1024) :
    Prep.pairs (A := 2) (B := 512) (W1 m ρ c (Proc.devRef .tc main_v0)) (ix4 b s p k) = Spec.p1 (X m c) b ⟨2 * s.val + p.val, by omega⟩ k := by
  unfold Prep.pairs Spec.p1 Spec.p0
  refine congrArg₂ (max : EReal → EReal → EReal) ((at_v0 m ρ c b s p 0 k).trans ?_) ((at_v0 m ρ c b s p 1 k).trans ?_)
  · exact congrArg (fun r => X m c (ix3 b r k)) (Fin.ext (by show s.val * 4 + p.val * 2 + 0 = 2 * (2 * s.val + p.val); omega))
  · exact congrArg (fun r => X m c (ix3 b r k)) (Fin.ext (by show s.val * 4 + p.val * 2 + 1 = 2 * (2 * s.val + p.val) + 1; omega))

theorem at_v3_0 (b : Fin 2) (s : Fin 512) (p : Fin 2) (k : Fin 1024) :
    (W2 m ρ c (Proc.devRef .tc main_v3_0) : FVec Ideal ⟨4, ![2, 512, 2, 1024]⟩ .f32) (ix4 b s p k)
      = Spec.p1 (X m c) b ⟨2 * s.val + p.val, by omega⟩ k :=
  (congrFun ((W2_arr m ρ c 3).trans (Prep.array_3 _ c)) _).trans (at_pairs m ρ c b s p k)

theorem at_v3_1 (b : Fin 2) (s : Fin 512) (k : Fin 1024) :
    (W2 m ρ c (Proc.devRef .tc main_v3_1) : FVec Ideal ⟨3, ![2, 512, 1024]⟩ .f32) (ix3 b s k) = Spec.p2 (X m c) b s k := by
  refine (congrFun ((W2_arr m ρ c 4).trans (Prep.array_4 _ c)) _).trans ?_
  unfold Prep.fours Spec.p2
  exact congrArg₂ (max : EReal → EReal → EReal) (at_pairs m ρ c b s 0 k) (at_pairs m ρ c b s 1 k)

theorem at_v3_2 (b : Fin 2) (s : Fin 512) (p : Fin 2) (k : Fin 1024) :
    (W2 m ρ c (Proc.devRef .tc main_v3_2) : FVec Ideal ⟨4, ![2, 512, 2, 1024]⟩ .f32) (ix4 b s p k)
      = Spec.normBy (Ga m c) (Be m c) (Spec.p1 (X m c) b ⟨2 * s.val + p.val, by omega⟩) k := by
  refine (congrFun ((W2_arr m ρ c 5).trans (Prep.array_5 _ c)) _).trans ?_
  unfold Prep.normed
  have e : (fun k' => Prep.pairs (A := 2) (B := 512) (W1 m ρ c (Proc.devRef .tc main_v0)) (ix4 b s p k'))
      = Spec.p1 (X m c) b ⟨2 * s.val + p.val, by omega⟩ := funext fun k' => at_pairs m ρ c b s p k'
  have eg : Prep.line (W1 m ρ c (Proc.devRef .tc main_v1)) = Ga m c := by
    funext i; obtain ⟨k', rfl⟩ : ∃ k' : Fin 1024, i = ix1 k' := ⟨i 0, eq_ix1 i⟩
    exact Stretch.v1_at _ 0 k'
  have eb : Prep.line (W1 m ρ c (Proc.devRef .tc main_v2)) = Be m c := by
    funext i; obtain ⟨k', rfl⟩ : ∃ k' : Fin 1024, i = ix1 k' := ⟨i 0, eq_ix1 i⟩
    exact Stretch.v2_at _ 0 k'
  exact (congrArg₂ (fun g s' => Spec.normBy g s' (fun k' => Prep.pairs (A := 2) (B := 512) (W1 m ρ c (Proc.devRef .tc main_v0)) (ix4 b s p k')) k) eg eb).trans
    (congrArg (fun r => Spec.normBy (Ga m c) (Be m c) r k) e)

/-! ## The products -/

theorem at_v4 (k : Fin 1024) (n : Fin 2048) :
    (W3 m ρ c (Proc.devRef .tc main_v4) : FVec Ideal ⟨2, ![1024, 2048]⟩ .f32) (ix2 k n)
      = if h : n.val < 1024 then Wk m c (ix2 k ⟨n.val, h⟩) else Wv m c (ix2 k ⟨n.val - 1024, by omega⟩) := by
  refine (Stretch.v4_at _ k n).trans ?_
  rw [W2_args m ρ c main_arg2 (by decide +kernel), W2_args m ρ c main_arg3 (by decide +kernel)]

/-- A row times the two weight matrices side by side. -/
theorem sum_pair (r : Fin 1024 → EReal) (U : FVec Ideal ⟨2, ![1024, 2048]⟩ .f32)
    (hU : ∀ k n, U (ix2 k n) = if h : n.val < 1024 then Wk m c (ix2 k ⟨n.val, h⟩) else Wv m c (ix2 k ⟨n.val - 1024, by omega⟩)) (n : Fin 2048) :
    (∑ k, r k * (U (ix2 k n) : EReal)) = pair r (Wk m c) (Wv m c) n := by
  unfold pair Spec.times
  split
  · next h => exact Finset.sum_congr rfl fun k _ => congrArg (r k * ·) ((hU k n).trans (dif_pos h))
  · next h => exact Finset.sum_congr rfl fun k _ => congrArg (r k * ·) ((hU k n).trans (dif_neg h))

/-- A row times a matrix, when the matrix is another's. -/
theorem sum_times (r : Fin 1024 → EReal) (U W : Spec.Weights) (hU : U = W) (n : Fin 1024) :
    (∑ k, r k * (U (ix2 k n) : EReal)) = Spec.times r W n := by rw [hU]; rfl

theorem at_v6 (b : Fin 2) (l n : Fin 1024) :
    (W4 m ρ c (Proc.devRef .tc main_v6) : FVec Ideal ⟨2, ![2048, 1024]⟩ .f32) (ix2 ⟨b.val * 1024 + l.val, by omega⟩ n)
      = Spec.times (Spec.normBy (Ga m c) (Be m c) (Spec.p1 (X m c) b l)) (Wq m c) n := by
  refine (congrFun ((W4_arr m ρ c 2).trans (Products.array1 _ c)) _).trans ?_
  refine (Finset.sum_congr rfl fun k _ => congrArg₂ (fun a b : EReal => a * b) ?_ rfl).trans
    (sum_times (Spec.normBy (Ga m c) (Be m c) (Spec.p1 (X m c) b l)) _ (Wq m c) (W3_args m ρ c main_arg1 (by decide +kernel)) n)
  refine (Stretch.v5_at _ _ k).trans ((at_v3_2 m ρ c _ _ _ k).trans ?_)
  refine congrArg₂ (fun b l => Spec.normBy (Ga m c) (Be m c) (Spec.p1 (X m c) b l) k) (Fin.ext ?_) (Fin.ext ?_)
  · show (b.val * 1024 + l.val) / 1024 = b.val; omega
  · show 2 * ((b.val * 1024 + l.val) / 2 % 512) + (b.val * 1024 + l.val) % 2 = l.val; omega

theorem at_v8 (b : Fin 2) (l : Fin 1024) (n : Fin 2048) :
    (W6 m ρ c (Proc.devRef .tc main_v8) : FVec Ideal ⟨2, ![2048, 2048]⟩ .f32) (ix2 ⟨b.val * 1024 + l.val, by omega⟩ n)
      = pair (Spec.p1 (X m c) b l) (Wk m c) (Wv m c) n := by
  refine (congrFun ((W6_arr m ρ c 2).trans (Products.array2 _ c)) _).trans ?_
  have e : W5 m ρ c (Proc.devRef .tc main_v4) = W3 m ρ c (Proc.devRef .tc main_v4) :=
    (W5_of m ρ c main_v4 (by decide +kernel)).trans (W4_of m ρ c main_v4 (by decide +kernel))
  refine (Finset.sum_congr rfl fun k _ => congrArg₂ (fun a b : EReal => a * b) ?_ (congrFun e _)).trans
    (sum_pair m c (Spec.p1 (X m c) b l) _ (at_v4 m ρ c) n)
  refine (Stretch.v7_at _ _ k).trans ?_
  rw [W4_of m ρ c main_v3_0 (by decide +kernel), W3_of m ρ c main_v3_0 (by decide +kernel)]
  refine (at_v3_0 m ρ c _ _ _ k).trans ?_
  refine congrArg₂ (fun b l => Spec.p1 (X m c) b l k) (Fin.ext ?_) (Fin.ext ?_)
  · show (b.val * 1024 + l.val) / 1024 = b.val; omega
  · show 2 * ((b.val * 1024 + l.val) / 2 % 512) + (b.val * 1024 + l.val) % 2 = l.val; omega

theorem at_v11 (b : Fin 2) (l : Fin 512) (n : Fin 2048) :
    (W8 m ρ c (Proc.devRef .tc main_v11) : FVec Ideal ⟨2, ![1024, 2048]⟩ .f32) (ix2 ⟨b.val * 512 + l.val, by omega⟩ n)
      = pair (Spec.p2 (X m c) b l) (Wk m c) (Wv m c) n := by
  refine (congrFun ((W8_arr m ρ c 2).trans (Products.array3 _ c)) _).trans ?_
  have e : W7 m ρ c (Proc.devRef .tc main_v4) = W3 m ρ c (Proc.devRef .tc main_v4) :=
    (W7_of m ρ c main_v4 (by decide +kernel)).trans ((W6_of m ρ c main_v4 (by decide +kernel)).trans
      ((W5_of m ρ c main_v4 (by decide +kernel)).trans (W4_of m ρ c main_v4 (by decide +kernel))))
  refine (Finset.sum_congr rfl fun k _ => congrArg₂ (fun a b : EReal => a * b) ?_ (congrFun e _)).trans
    (sum_pair m c (Spec.p2 (X m c) b l) _ (at_v4 m ρ c) n)
  refine (Stretch.v10_at _ _ k).trans ?_
  rw [W6_of m ρ c main_v3_1 (by decide +kernel), W5_of m ρ c main_v3_1 (by decide +kernel), W4_of m ρ c main_v3_1 (by decide +kernel),
    W3_of m ρ c main_v3_1 (by decide +kernel)]
  refine (at_v3_1 m ρ c _ _ k).trans ?_
  refine congrArg₂ (fun b l => Spec.p2 (X m c) b l k) (Fin.ext ?_) (Fin.ext ?_)
  · show (b.val * 512 + l.val) / 512 = b.val; omega
  · show (b.val * 512 + l.val) % 512 = l.val; omega

theorem at_v14 (b : Fin 2) (l : Fin 2048) (n : Fin 2048) :
    (W10 m ρ c (Proc.devRef .tc main_v14) : FVec Ideal ⟨2, ![4096, 2048]⟩ .f32) (ix2 ⟨b.val * 2048 + l.val, by omega⟩ n)
      = pair (Spec.p0 (X m c) b l) (Wk m c) (Wv m c) n := by
  refine (congrFun ((W10_arr m ρ c 2).trans (Products.array4 _ c)) _).trans ?_
  have e : W9 m ρ c (Proc.devRef .tc main_v4) = W3 m ρ c (Proc.devRef .tc main_v4) :=
    (W9_of m ρ c main_v4 (by decide +kernel)).trans ((W8_of m ρ c main_v4 (by decide +kernel)).trans
      ((W7_of m ρ c main_v4 (by decide +kernel)).trans ((W6_of m ρ c main_v4 (by decide +kernel)).trans
      ((W5_of m ρ c main_v4 (by decide +kernel)).trans (W4_of m ρ c main_v4 (by decide +kernel))))))
  refine (Finset.sum_congr rfl fun k _ => congrArg₂ (fun a b : EReal => a * b) ?_ (congrFun e _)).trans
    (sum_pair m c (Spec.p0 (X m c) b l) _ (at_v4 m ρ c) n)
  refine (Stretch.v13_at _ _ k).trans ?_
  rw [W8_args m ρ c main_arg0 (by decide +kernel)]
  refine congrArg₂ (fun b l => X m c (ix3 b l k)) (Fin.ext ?_) (Fin.ext ?_)
  · show (b.val * 2048 + l.val) / 2048 = b.val; omega
  · show (b.val * 2048 + l.val) % 2048 = l.val; omega

/-! ## What the attention reads -/

theorem at_v18 (b : Fin 2) (l n : Fin 1024) :
    (W15 m ρ c (Proc.devRef .tc main_v18) : FVec Ideal ⟨3, ![2, 1024, 1024]⟩ .f32) (ix3 b l n)
      = Spec.times (Spec.normBy (Ga m c) (Be m c) (Spec.p1 (X m c) b l)) (Wq m c) n := by
  refine (Stretch.v18_at _ b l n).trans ?_
  rw [W14_of m ρ c main_v6 (by decide +kernel), W13_of m ρ c main_v6 (by decide +kernel), W12_of m ρ c main_v6 (by decide +kernel),
    W11_of m ρ c main_v6 (by decide +kernel), W10_of m ρ c main_v6 (by decide +kernel), W9_of m ρ c main_v6 (by decide +kernel),
    W8_of m ρ c main_v6 (by decide +kernel), W7_of m ρ c main_v6 (by decide +kernel), W6_of m ρ c main_v6 (by decide +kernel),
    W5_of m ρ c main_v6 (by decide +kernel)]
  exact at_v6 m ρ c b l n

theorem at_v16 (b : Fin 2) (r : Fin 1036) (n : Fin 2048) :
    (W15 m ρ c (Proc.devRef .tc main_v16) : FVec Ideal ⟨3, ![2, 1036, 2048]⟩ .f32) (ix3 b r n)
      = pair (Spec.p1 (X m c) b ⟨min (r.val - 6) 1023, by omega⟩) (Wk m c) (Wv m c) n := by
  rw [W15_of m ρ c main_v16 (by decide +kernel), W14_of m ρ c main_v16 (by decide +kernel), W13_of m ρ c main_v16 (by decide +kernel)]
  refine (Stretch.v16_at _ b r n).trans ?_
  rw [W11_of m ρ c main_v9 (by decide +kernel), W10_of m ρ c main_v9 (by decide +kernel), W9_of m ρ c main_v9 (by decide +kernel),
    W8_of m ρ c main_v9 (by decide +kernel)]
  exact (Stretch.v9_at _ b _ n).trans (at_v8 m ρ c b _ n)

theorem at_v17 (b : Fin 2) (r : Fin 514) (n : Fin 2048) :
    (W15 m ρ c (Proc.devRef .tc main_v17) : FVec Ideal ⟨3, ![2, 514, 2048]⟩ .f32) (ix3 b r n)
      = pair (Spec.p2 (X m c) b ⟨min (r.val - 1) 511, by omega⟩) (Wk m c) (Wv m c) n := by
  rw [W15_of m ρ c main_v17 (by decide +kernel)]
  refine (Stretch.v17_at _ b r n).trans ?_
  rw [W13_of m ρ c main_v12 (by decide +kernel), W12_of m ρ c main_v12 (by decide +kernel), W11_of m ρ c main_v12 (by decide +kernel),
    W10_of m ρ c main_v12 (by decide +kernel)]
  exact (Stretch.v12_at _ b _ n).trans (at_v11 m ρ c b _ n)

theorem at_v15 (b : Fin 2) (r n : Fin 2048) :
    (W15 m ρ c (Proc.devRef .tc main_v15) : FVec Ideal ⟨3, ![2, 2048, 2048]⟩ .f32) (ix3 b r n)
      = pair (Spec.p0 (X m c) b r) (Wk m c) (Wv m c) n := by
  rw [W15_of m ρ c main_v15 (by decide +kernel), W14_of m ρ c main_v15 (by decide +kernel), W13_of m ρ c main_v15 (by decide +kernel),
    W12_of m ρ c main_v15 (by decide +kernel)]
  exact (Stretch.v15_at _ b r n).trans (at_v14 m ρ c b r n)

end Cert.KernelIdeal.Chain
-- ==== Proof.KernelResult.lean ====
/- The kernel's result as a function of its arguments: the attention over the best sixteen candidates, times the projection. -/
module

public import proofs.«01_k».proof.Proof.Chain

@[expose] public section

set_option maxRecDepth 16384

noncomputable section

namespace Cert.KernelIdeal.Chain

open Cert.KernelIdeal Cert.KernelIdeal.Gen Cert.KernelIdeal.Run
open Idealize.ShloMosaic Idealize.ShloMosaic.TcCoe
open scoped BigOperators

variable (m : (l : Loc nD τ sig) → Buf (Elt Ideal) l) (ρ : Dev nD → PrngReg) (c : Dev nD)

/-- The row the kernel takes for a candidate is the candidate's row times the two weight matrices. -/
theorem rowAt_eq (b : Fin 2) (l : Fin 1024) (j : Fin 18) (k : Fin 2048) :
    Heads.rowAt (W15 m ρ c (Proc.devRef .tc main_v16)) (W15 m ρ c (Proc.devRef .tc main_v17)) (W15 m ρ c (Proc.devRef .tc main_v15)) b l j k
      = pair (Spec.cand (X m c) b l j) (Wk m c) (Wv m c) k := by
  unfold Heads.rowAt Spec.cand
  split
  · exact at_v16 m ρ c b _ k
  · split
    · refine (at_v17 m ρ c b _ k).trans (congrArg (fun r => pair (Spec.p2 (X m c) b r) (Wk m c) (Wv m c) k) (Fin.ext ?_))
      show min (l.val / 2 + (if j.val = 13 then 1 else if j.val = 14 then 0 else 2) - 1) 511
        = if j.val - 13 = 0 then l.val / 2 else if j.val - 13 = 1 then l.val / 2 - 1 else min (l.val / 2 + 1) 511
      split_ifs <;> omega
    · exact at_v15 m ρ c b _ k

theorem pair_key (r : Fin 1024 → EReal) (A B : Spec.Weights) (n : Fin 1024) : pair r A B ⟨n.val, by omega⟩ = Spec.times r A n :=
  dif_pos n.isLt

theorem pair_value (r : Fin 1024 → EReal) (A B : Spec.Weights) (n : Fin 1024) : pair r A B ⟨1024 + n.val, by omega⟩ = Spec.times r B n := by
  unfold pair
  rw [dif_neg (by show ¬ 1024 + n.val < 1024; omega)]
  exact congrArg (Spec.times r B) (Fin.ext (by show 1024 + n.val - 1024 = n.val; omega))

variable (hx : ∀ i, Spec.Fin' (X m c i))
include hx

/-- The attention output of the kernel. -/
theorem at_v19 (b : Fin 2) (l n : Fin 1024) :
    (W16 m ρ c (Proc.devRef .tc main_v19) : FVec Ideal ⟨3, ![2, 1024, 1024]⟩ .f32) (ix3 b l n)
      = Spec.attendAll (X m c) (Wq m c) (Wk m c) (Wv m c) (Ga m c) (Be m c) b l n := by
  refine (congrFun ((W16_arr m ρ c 7).trans (Heads.array5 _ c)) _).trans ?_
  show Heads.attended (W15 m ρ c (Proc.devRef .tc main_v18)) (W15 m ρ c (Proc.devRef .tc main_v16)) (W15 m ρ c (Proc.devRef .tc main_v17))
    (W15 m ρ c (Proc.devRef .tc main_v15)) b l n = _
  unfold Heads.attended Spec.attendAll
  refine Finset.sum_congr rfl fun j _ => congrArg₂ (fun a b : EReal => a * b) (congrArg (fun s => Attn.weight s j) (funext fun j' => ?_)) ?_
  · rw [Spec.mul_eighth]
    unfold Spec.score Spec.dot
    refine congrArg (fun a => Ideal.div a _) (Finset.sum_congr rfl fun d _ => congrArg₂ (fun a b : EReal => a * b) ?_ ?_)
    · refine (at_v18 m ρ c b l _).trans ?_
      rw [show Spec.normBy (Ga m c) (Be m c) (Spec.p1 (X m c) b l) = Spec.norm (Ga m c) (Be m c) (Spec.p1 (X m c) b l) from
        funext fun k => Spec.normBy_eq _ _ (fun k => Spec.fin_p1 hx b l k) k]
      rfl
    · exact (rowAt_eq m ρ c b l j' _).trans (pair_key _ _ _ (Heads.same n d))
  · exact (rowAt_eq m ρ c b l j _).trans (pair_value _ _ _ n)

variable (hq : ∀ i, Spec.Fin' (Wq m c i)) (hk : ∀ i, Spec.Fin' (Wk m c i)) (hg : ∀ i, Spec.Fin' (Ga m c i)) (hs : ∀ i, Spec.Fin' (Be m c i))
include hq hk hg hs

/-- The kernel's result. -/
theorem at_v22 (b : Fin 2) (l o : Fin 1024) :
    (W19 m ρ c (Proc.devRef .tc main_v22) : FVec Ideal ⟨3, ![2, 1024, 1024]⟩ .f32) (ix3 b l o)
      = Spec.result (X m c) (Wq m c) (Wk m c) (Wv m c) (Wp m c) (Ga m c) (Be m c) b l o := by
  refine (Stretch.v22_at _ b l o).trans ((congrFun ((W18_arr m ρ c 2).trans (Products.array6 _ c)) _).trans ?_)
  refine (Finset.sum_congr rfl fun k _ => congrArg₂ (fun a b : EReal => a * b) ?_ rfl).trans
    (sum_times (Spec.attend (X m c) (Wq m c) (Wk m c) (Wv m c) (Ga m c) (Be m c) b l) _ (Wp m c) (W17_args m ρ c main_arg4 (by decide +kernel)) o)
  refine (Stretch.v20_at _ _ k).trans ?_
  refine Eq.trans ?_ ((at_v19 m ρ c hx b l k).trans (Spec.attendAll_eq (Wv := Wv m c) hx hq hk hg hs b l k))
  refine congrArg₂ (fun b l => (W16 m ρ c (Proc.devRef .tc main_v19) : FVec Ideal ⟨3, ![2, 1024, 1024]⟩ .f32) (ix3 b l k)) (Fin.ext ?_) (Fin.ext ?_)
  · show (b.val * 1024 + l.val) / 1024 = b.val; omega
  · show (b.val * 1024 + l.val) % 1024 = l.val; omega

end Cert.KernelIdeal.Chain
-- ==== Proof.RefIndex.lean ====
/- The reference's index words: which row each candidate is taken from. -/
module

public import proofs.«01_k».proof.Proof.Gen.ReferenceIdeal.Read
public import Idealize.ShloMosaic.Lib.Pointwise
public import Idealize.ShloMosaic.Lib.Tactic.WordOmega

@[expose] public section

set_option maxRecDepth 16384

noncomputable section

namespace Cert.ReferenceIdeal.Words

open Cert.ReferenceIdeal Cert.ReferenceIdeal.Gen Cert.ReferenceIdeal.Read
open Idealize.ShloMosaic Idealize.ShloMosaic.TcCoe

/-- The row's number plus an offset from -6 on, held between the first and the last row, and wrapped if negative. -/
theorem band_word : ∀ (l : Fin 1024) (j : Fin 13),
    (Scalar.select (IntOp.cmpi .slt (IntOp.minsi 1023#32 (IntOp.maxsi 0#32 (IntOp.addi (BitVec.ofNat 32 l.val) (IntOp.addi 4294967290#32 (BitVec.ofNat 32 j.val))))) 0#32)
      (IntOp.addi (IntOp.minsi 1023#32 (IntOp.maxsi 0#32 (IntOp.addi (BitVec.ofNat 32 l.val) (IntOp.addi 4294967290#32 (BitVec.ofNat 32 j.val))))) 1024#32)
      (IntOp.minsi 1023#32 (IntOp.maxsi 0#32 (IntOp.addi (BitVec.ofNat 32 l.val) (IntOp.addi 4294967290#32 (BitVec.ofNat 32 j.val)))))).toInt.toNat
      = min (l.val + j.val - 6) 1023 := by decide +kernel

/-- Half of a row's number. -/
theorem half_at (l : Fin 1024) : val_main_v67 (F := Ideal) (ix1 l) = BitVec.ofNat 32 (l.val / 2) := by
  pointwise [val_main_v67, val_main_v37, val_main_c_12, val_main_call1_v0, val_main_call1_v1, val_main_call1_v2, val_main_call1_v3, val_main_call1_v4,
    val_main_call1_v5, val_main_call1_v6, val_main_call1_v7, val_main_call1_v8, val_main_call1_v9, val_main_call1_v10, val_main_call1_v11,
    val_main_call1_v12, val_main_call1_v13, val_main_call1_c, val_main_call1_c_0]
  revert l
  decide +kernel

/-- The rows near a row, for the keys and for the values. -/
theorem band_keys (l : Fin 1024) (j : Fin 13) :
    (val_main_v52 (F := Ideal) (ix3 l j 0)).toInt.toNat = min (l.val + j.val - 6) 1023 := by
  refine Eq.trans ?_ (band_word l j)
  pointwise [val_main_v52, val_main_v51, val_main_v50, val_main_v49, val_main_v48, val_main_v47, val_main_v46, val_main_v45, val_main_v44,
    val_main_v43, val_main_v42, val_main_v41, val_main_v40, val_main_v39, val_main_v38, val_main_v37, val_main_c, val_main_c_6, val_main_c_7,
    val_main_c_8, val_main_c_9, val_main_call0_v0, val_main_call0_v1, val_main_call0_v2, val_main_call0_v3, val_main_call0_v4]
  rfl

theorem band_values (l : Fin 1024) (j : Fin 13) :
    (val_main_v59 (F := Ideal) (ix3 l j 0)).toInt.toNat = min (l.val + j.val - 6) 1023 := by
  refine Eq.trans ?_ (band_word l j)
  pointwise [val_main_v59, val_main_v58, val_main_v57, val_main_v56, val_main_v55, val_main_v54, val_main_v46, val_main_v45, val_main_v44,
    val_main_v43, val_main_v42, val_main_v41, val_main_v40, val_main_v39, val_main_v38, val_main_v37, val_main_c, val_main_c_6, val_main_c_7,
    val_main_c_10, val_main_c_11, val_main_call0_v0, val_main_call0_v1, val_main_call0_v2, val_main_call0_v3, val_main_call0_v4]
  rfl

/-- The rows above a row. -/
theorem parent_at (l : Fin 1024) (j : Fin 3) : val_main_v81 (F := Ideal) (ix2 l j)
    = BitVec.ofNat 32 (if j.val = 0 then l.val / 2 else if j.val = 1 then l.val / 2 - 1 else min (l.val / 2 + 1) 511) := by
  pointwise [val_main_v81, val_main_v80, val_main_v79,
    val_main_v78, val_main_v77, val_main_v76, val_main_v75, val_main_v74, val_main_v73, val_main_v72, val_main_v71, val_main_v70, val_main_v69,
    val_main_v68, val_main_c_13, val_main_c_14, val_main_c_15, val_main_c_16, val_main_c_17, half_at]
  revert l j
  decide +kernel

/-- The rows below a row. -/
theorem child_at (l : Fin 1024) (j : Fin 2) : val_main_v114 (F := Ideal) (ix2 l j) = BitVec.ofNat 32 (2 * l.val + j.val) := by
  pointwise [val_main_v114, val_main_v113,
    val_main_v112, val_main_v111, val_main_v110, val_main_v109, val_main_v108, val_main_v107, val_main_v106, val_main_v105, val_main_v104,
    val_main_v103, val_main_v102, val_main_v37, val_main_c_22, val_main_c_23, val_main_c_24, val_main_c_25, val_main_c_26]
  revert l j
  decide +kernel

/-- A word of a number below half the range, wrapped if negative and read signed, is the number. -/
theorem wrap_toNat (n k : ℕ) (h : n < 2147483648) :
    (Scalar.select (IntOp.cmpi .slt (BitVec.ofNat 32 n) 0#32) (IntOp.addi (BitVec.ofNat 32 n) (BitVec.ofNat 32 k)) (BitVec.ofNat 32 n)).toInt.toNat = n := by
  have e : (BitVec.ofNat 32 n).toInt = n := by
    rw [BitVec.toInt_ofNat']; exact Int.bmod_eq_of_le (by norm_num) (by norm_num; omega)
  have e' : IntOp.cmpi .slt (BitVec.ofNat 32 n) 0#32 = 0#1 := by
    show BitVec.ofBool ((BitVec.ofNat 32 n).slt 0#32) = 0#1
    rw [BitVec.slt, e]
    simp
    rfl
  rw [e']
  show (BitVec.ofNat 32 n).toInt.toNat = n
  rw [e]; rfl

/-- The rows above and below, for the keys and for the values. -/
theorem above_keys (l : Fin 1024) (j : Fin 3) : (val_main_v87 (F := Ideal) (ix3 l j 0)).toInt.toNat
    = if j.val = 0 then l.val / 2 else if j.val = 1 then l.val / 2 - 1 else min (l.val / 2 + 1) 511 := by
  pointwise [val_main_v87, val_main_v86, val_main_v85, val_main_v84, val_main_v83, val_main_v82, val_main_c_18, val_main_c_19]
  rw [parent_at]
  exact wrap_toNat _ _ (by split <;> [skip; split] <;> omega)

theorem above_values (l : Fin 1024) (j : Fin 3) : (val_main_v94 (F := Ideal) (ix3 l j 0)).toInt.toNat
    = if j.val = 0 then l.val / 2 else if j.val = 1 then l.val / 2 - 1 else min (l.val / 2 + 1) 511 := by
  pointwise [val_main_v94, val_main_v93, val_main_v92, val_main_v91, val_main_v90, val_main_v89, val_main_c_20, val_main_c_21]
  rw [parent_at]
  exact wrap_toNat _ _ (by split <;> [skip; split] <;> omega)

theorem below_keys (l : Fin 1024) (j : Fin 2) : (val_main_v120 (F := Ideal) (ix3 l j 0)).toInt.toNat
    = 2 * l.val + j.val := by
  pointwise [val_main_v120, val_main_v119, val_main_v118, val_main_v117, val_main_v116, val_main_v115, val_main_c_27, val_main_c_28]
  rw [child_at]
  exact wrap_toNat _ _ (by omega)

theorem below_values (l : Fin 1024) (j : Fin 2) : (val_main_v127 (F := Ideal) (ix3 l j 0)).toInt.toNat
    = 2 * l.val + j.val := by
  pointwise [val_main_v127, val_main_v126, val_main_v125, val_main_v124, val_main_v123, val_main_v122, val_main_c_29, val_main_c_30]
  rw [child_at]
  exact wrap_toNat _ _ (by omega)

end Cert.ReferenceIdeal.Words
-- ==== Proof.RefPool.lean ====
/- The reference's pooled rows, and the row it normalises. -/
module

public import proofs.«01_k».proof.Proof.Gen.ReferenceIdeal.Read
public import Idealize.ShloMosaic.Lib.Pointwise
public import proofs.«01_k».proof.Proof.Spec

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe
open scoped BigOperators

variable (x : Spec.Rows) (g s : Spec.Line)

/-- The largest of two numbers above the least extended real. -/
theorem fold_pair (f : Fin 2 → EReal) : Finset.univ.fold max (Ideal.ofBits .f32 0xFF800000#32) f = max (f 0) (f 1) := by
  rw [show Ideal.ofBits .f32 0xFF800000#32 = (⊥ : EReal) by simp [Ideal.ofBits, Ideal.ieee],
    show (Finset.univ : Finset (Fin 2)) = {0, 1} from rfl, Finset.fold_insert (by decide), Finset.fold_singleton]
  exact congrArg (max (f 0)) (max_eq_left bot_le)

/-- The reference's reductions over pairs of rows. -/
theorem pair_max1 (v : FVec Ideal S2x1024x2x1024 .f32) (u : FVec Ideal S_ .f32) (hu : u = constant S_ .f32 0xFF800000#32)
    (b : Fin 2) (l : Fin 1024) (k : Fin 1024) : Host.reduce FloatOps.maximumf v u reducesTo_S2x1024x2x1024_S2x1024x1024_d2 h_S_ (ix3 b l k)
      = max (v (ix4 b l 0 k) : EReal) (v (ix4 b l 1 k)) := by
  subst hu
  have hR : S2x1024x2x1024.Reduces [2] S2x1024x1024 := by decide
  have hl : ∀ e : Fin 2, hR.lift (ix3 b l k) e = ix4 b l e k := fun e => funext fun a => match a with
    | ⟨0, _⟩ => rfl
    | ⟨1, _⟩ => rfl
    | ⟨2, _⟩ => rfl
    | ⟨3, _⟩ => rfl
  have e : v ∘ hR.lift (ix3 b l k) = fun e : Fin 2 => v (ix4 b l e k) := funext fun e => congrArg v (hl e)
  refine (Host.reduce_eq_fold_single _ _ _ reducesTo_S2x1024x2x1024_S2x1024x1024_d2 hR h_S_ _).trans ?_
  rw [e]
  exact fold_pair fun e => v (ix4 b l e k)

theorem pair_max2 (v : FVec Ideal S2x512x2x1024 .f32) (u : FVec Ideal S_ .f32) (hu : u = constant S_ .f32 0xFF800000#32)
    (b : Fin 2) (l : Fin 512) (k : Fin 1024) : Host.reduce FloatOps.maximumf v u reducesTo_S2x512x2x1024_S2x512x1024_d2 h_S_ (ix3 b l k)
      = max (v (ix4 b l 0 k) : EReal) (v (ix4 b l 1 k)) := by
  subst hu
  have hR : S2x512x2x1024.Reduces [2] S2x512x1024 := by decide
  have hl : ∀ e : Fin 2, hR.lift (ix3 b l k) e = ix4 b l e k := fun e => funext fun a => match a with
    | ⟨0, _⟩ => rfl
    | ⟨1, _⟩ => rfl
    | ⟨2, _⟩ => rfl
    | ⟨3, _⟩ => rfl
  have e : v ∘ hR.lift (ix3 b l k) = fun e : Fin 2 => v (ix4 b l e k) := funext fun e => congrArg v (hl e)
  refine (Host.reduce_eq_fold_single _ _ _ reducesTo_S2x512x2x1024_S2x512x1024_d2 hR h_S_ _).trans ?_
  rw [e]
  exact fold_pair fun e => v (ix4 b l e k)

theorem v0_at (b : Fin 2) (l : Fin 1024) (e : Fin 2) (k : Fin 1024) :
    val_main_v0 (F := Ideal) x (ix4 b l e k) = Spec.p0 x b ⟨2 * l.val + e.val, by omega⟩ k := by
  unfold Spec.p0
  pointwise [val_main_v0]
  all_goals simp only [Nat.mul_comm]

/-- Rows pooled in pairs. -/
theorem pooled_at (b : Fin 2) (l k : Fin 1024) : val_main_v1 (F := Ideal) x (ix3 b l k) = Spec.p1 x b l k :=
  (pair_max1 (val_main_v0 (F := Ideal) x) _ rfl b l k).trans (congrArg₂ (max : EReal → EReal → EReal) (v0_at x b l 0 k) (v0_at x b l 1 k))

theorem v2_at (b : Fin 2) (l : Fin 512) (e : Fin 2) (k : Fin 1024) :
    val_main_v2 (F := Ideal) x (ix4 b l e k) = Spec.p1 x b ⟨2 * l.val + e.val, by omega⟩ k := by
  rw [val_main_v2_apply]
  refine (congrArg (val_main_v1 (F := Ideal) x) (funext fun a => Fin.ext ?_)).trans (pooled_at x b ⟨2 * l.val + e.val, by omega⟩ k)
  match a with
  | ⟨0, _⟩ => show (((b.val * 512 + l.val) * 2 + e.val) * 1024 + k.val) / 1048576 = b.val; omega
  | ⟨1, _⟩ => show (((b.val * 512 + l.val) * 2 + e.val) * 1024 + k.val) / 1024 % 1024 = 2 * l.val + e.val; omega
  | ⟨2, _⟩ => show (((b.val * 512 + l.val) * 2 + e.val) * 1024 + k.val) % 1024 = k.val; omega

/-- Rows pooled in fours. -/
theorem pooled2_at (b : Fin 2) (l : Fin 512) (k : Fin 1024) : val_main_v3 (F := Ideal) x (ix3 b l k) = Spec.p2 x b l k :=
  (pair_max2 (val_main_v2 (F := Ideal) x) _ rfl b l k).trans (congrArg₂ (max : EReal → EReal → EReal) (v2_at x b l 0 k) (v2_at x b l 1 k))

/-! ## The normalised row -/

theorem zero_add_sum (f : Fin 1024 → EReal) : Ideal.ofBits .f32 0x00000000#32 + ∑ k, f k = ∑ k, f k := by
  rw [show Ideal.ofBits .f32 0x00000000#32 = (0 : EReal) by simp [Ideal.ofBits, Ideal.ieee], zero_add]

theorem mean_at (b : Fin 2) (l : Fin 1024) : val_main_v7 (F := Ideal) x (ix3 b l 0) = Spec.mean (Spec.p1 x b l) := by
  rw [val_main_v7_apply, val_main_v6_apply, val_main_v5_apply, val_main_v4_apply]
  refine congrArg (fun a => Ideal.div a Spec.count) ((zero_add_sum _).trans (Finset.sum_congr rfl fun k _ => ?_))
  exact (congrArg (val_main_v1 (F := Ideal) x) (eq_ix3 _)).trans (pooled_at x b l k)

theorem centred_at (b : Fin 2) (l k : Fin 1024) :
    val_main_v9 (F := Ideal) x (ix3 b l k) = Spec.p1 x b l k - Spec.mean (Spec.p1 x b l) := by
  rw [val_main_v9_apply, val_main_v8_apply]
  exact congrArg₂ (fun a b : EReal => a - b) (pooled_at x b l k) ((congrArg (val_main_v7 (F := Ideal) x) (eq_ix3 _)).trans (mean_at x b l))

theorem centred'_at (b : Fin 2) (l k : Fin 1024) :
    val_main_v16 (F := Ideal) x (ix3 b l k) = Spec.p1 x b l k - Spec.mean (Spec.p1 x b l) := by
  rw [val_main_v16_apply, val_main_v15_apply]
  exact congrArg₂ (fun a b : EReal => a - b) (pooled_at x b l k) ((congrArg (val_main_v7 (F := Ideal) x) (eq_ix3 _)).trans (mean_at x b l))

theorem square_at (b : Fin 2) (l k : Fin 1024) : val_main_v10 (F := Ideal) x (ix3 b l k)
    = (Spec.p1 x b l k - Spec.mean (Spec.p1 x b l)) * (Spec.p1 x b l k - Spec.mean (Spec.p1 x b l)) := by
  rw [val_main_v10_apply]
  exact congrArg₂ (fun a b : EReal => a * b) (centred_at x b l k) (centred_at x b l k)

theorem spread_at (b : Fin 2) (l : Fin 1024) : val_main_v18 (F := Ideal) x (ix3 b l 0) = Spec.spread (Spec.p1 x b l) := by
  rw [val_main_v18_apply, val_main_v17_apply, val_main_v14_apply, val_main_v13_apply, val_main_v12_apply, val_main_v11_apply]
  refine congrArg (fun a : EReal => Ideal.div a Spec.count + Spec.small) ((zero_add_sum _).trans (Finset.sum_congr rfl fun k _ => ?_))
  exact (congrArg (val_main_v10 (F := Ideal) x) (eq_ix3 _)).trans (square_at x b l k)

theorem root_at (b : Fin 2) (l k : Fin 1024) : val_main_v20 (F := Ideal) x (ix3 b l k) = Ideal.sqrt (Spec.spread (Spec.p1 x b l)) := by
  rw [val_main_v20_apply, val_main_v19_apply]
  exact congrArg Ideal.sqrt ((congrArg (val_main_v18 (F := Ideal) x) (eq_ix3 _)).trans (spread_at x b l))

theorem norm_at (b : Fin 2) (l k : Fin 1024) : val_main_v27 (F := Ideal) x g s (ix3 b l k) = Spec.norm g s (Spec.p1 x b l) k := by
  rw [val_main_v27_apply, val_main_v26_apply, val_main_v25_apply, val_main_v24_apply, val_main_v23_apply, val_main_v22_apply, val_main_v21_apply]
  exact congrArg₂ (fun a b : EReal => a + b)
    (congrArg₂ (fun a b : EReal => a * b) (congrArg₂ Ideal.div (centred'_at x b l k) (root_at x b l k)) (congrArg g (eq_ix1 _)))
    (congrArg s (eq_ix1 _))

end Cert.ReferenceIdeal.Rows
-- ==== Proof.Gathers.lean ====
/- The reference's two gathers read at an index: rows named by a table of row numbers, and rows picked along an axis by an index per row. -/
module

public import Idealize.ShloMosaic.Lib.Pointwise

@[expose] public section

set_option maxRecDepth 16384

namespace Cert.Gathers

open Idealize.ShloMosaic

variable {α : Type}

/-- Rows of a `[2, 16, N, 64]` array named by a `[1024, K, 1]` table. -/
abbrev rowDims (N K : ℕ) (wf : GatherDims.WF ⟨4, ![2, 16, N, 64]⟩ ⟨3, ![1024, K, 1]⟩ ⟨5, ![2, 16, 1024, K, 64]⟩ [0, 1, 4] [2] [] [2] [] 2
    ![2, 16, 1, 64]) : GatherDims ⟨4, ![2, 16, N, 64]⟩ ⟨3, ![1024, K, 1]⟩ ⟨5, ![2, 16, 1024, K, 64]⟩ where
  offsetDims := [0, 1, 4]
  collapsedSliceDims := [2]
  operandBatchingDims := []
  startIndicesBatchingDims := []
  startIndexMap := [2]
  indexVectorDim := 2
  sliceSizes := ![2, 16, 1, 64]
  wf := wf

theorem rows_at (N K : ℕ) (wf) (x : (⟨4, ![2, 16, N, 64]⟩ : Shape).Idx → α) (w : IVec ⟨3, ![1024, K, 1]⟩ 32)
    (b : Fin 2) (h : Fin 16) (l : Fin 1024) (j : Fin K) (d : Fin 64) (r : Fin N) (hr : (w (ix3 l j 0)).toInt.toNat = r.val) :
    Host.gather (rowDims N K wf) x w (ix5 b h l j d) = x (ix4 b h r d) := by
  have e : (rowDims N K wf).siIdx (ix5 b h l j d) ⟨0, Nat.one_pos⟩ = ix3 l j 0 := by
    funext c
    match c with
    | ⟨0, _⟩ => rfl
    | ⟨1, _⟩ => rfl
    | ⟨2, _⟩ => rfl
  have es : (rowDims N K wf).start (ix5 b h l j d) w 2 = r.val := by
    show min (w ((rowDims N K wf).siIdx (ix5 b h l j d) ⟨0, Nat.one_pos⟩)).toInt.toNat (N - 1) = r.val
    rw [e, hr]
    omega
  unfold Host.gather
  refine congrArg x (funext fun a => Fin.ext ?_)
  match a with
  | ⟨0, _⟩ => exact (Nat.zero_add _ : 0 + 0 + b.val = b.val)
  | ⟨1, _⟩ => exact (Nat.zero_add _ : 0 + 0 + h.val = h.val)
  | ⟨2, _⟩ => exact es
  | ⟨3, _⟩ => exact (Nat.zero_add _ : 0 + 0 + d.val = d.val)

/-- One of eighteen rows of 64, picked by an index per place. -/
abbrev pickDims (wf : GatherDims.WF ⟨5, ![2, 16, 1024, 18, 64]⟩ ⟨5, ![2, 16, 1024, 16, 1]⟩ ⟨5, ![2, 16, 1024, 16, 64]⟩ [4] [3] [0, 1, 2] [3] [0, 1, 2] 4
    ![1, 1, 1, 1, 64]) : GatherDims ⟨5, ![2, 16, 1024, 18, 64]⟩ ⟨5, ![2, 16, 1024, 16, 1]⟩ ⟨5, ![2, 16, 1024, 16, 64]⟩ where
  offsetDims := [4]
  collapsedSliceDims := [3]
  operandBatchingDims := [0, 1, 2]
  startIndicesBatchingDims := [0, 1, 2]
  startIndexMap := [3]
  indexVectorDim := 4
  sliceSizes := ![1, 1, 1, 1, 64]
  wf := wf

theorem pick_at (wf) (x : (⟨5, ![2, 16, 1024, 18, 64]⟩ : Shape).Idx → α) (w : IVec ⟨5, ![2, 16, 1024, 16, 1]⟩ 32)
    (b : Fin 2) (h : Fin 16) (l : Fin 1024) (j : Fin 16) (d : Fin 64) (r : Fin 18) (hr : (w (ix5 b h l j 0)).toInt.toNat = r.val) :
    Host.gather (pickDims wf) x w (ix5 b h l j d) = x (ix5 b h l r d) := by
  have e : (pickDims wf).siIdx (ix5 b h l j d) ⟨0, Nat.one_pos⟩ = ix5 b h l j 0 := by
    funext c
    match c with
    | ⟨0, _⟩ => rfl
    | ⟨1, _⟩ => rfl
    | ⟨2, _⟩ => rfl
    | ⟨3, _⟩ => rfl
    | ⟨4, _⟩ => rfl
  have es : (pickDims wf).start (ix5 b h l j d) w 3 = r.val := by
    show min (w ((pickDims wf).siIdx (ix5 b h l j d) ⟨0, Nat.one_pos⟩)).toInt.toNat 17 = r.val
    rw [e, hr]
    omega
  unfold Host.gather
  refine congrArg x (funext fun a => Fin.ext ?_)
  match a with
  | ⟨0, _⟩ => exact (Nat.zero_add _ : 0 + b.val = b.val)
  | ⟨1, _⟩ => exact (Nat.zero_add _ : 0 + h.val = h.val)
  | ⟨2, _⟩ => exact (Nat.zero_add _ : 0 + l.val = l.val)
  | ⟨3, _⟩ => exact es
  | ⟨4, _⟩ => exact (Nat.zero_add _ : 0 + 0 + d.val = d.val)

end Cert.Gathers
-- ==== Proof.RefRows.lean ====
/- The reference's rows: the pooled rows, the queries, and each candidate's key and value. -/
module

public import proofs.«01_k».proof.Proof.RefIndex
public import proofs.«01_k».proof.Proof.RefPool
public import proofs.«01_k».proof.Proof.Gathers
public import proofs.«01_k».proof.Proof.Spec

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe
open scoped BigOperators

variable (x : Spec.Rows) (A : Spec.Weights) (g s : Spec.Line)

/-! ## The products, by heads -/

theorem col_eq (h : Fin 16) (d : Fin 64) : (⟨h.val * 64 + d.val, by omega⟩ : Fin 1024) = Spec.col h d :=
  Fin.ext (by show h.val * 64 + d.val = 64 * h.val + d.val; omega)

theorem query_at (b : Fin 2) (h : Fin 16) (l : Fin 1024) (d : Fin 64) :
    val_main_v30 (F := Ideal) x A g s (ix4 b h l d) = Spec.query x A g s b l (Spec.col h d) := by
  unfold Spec.query Spec.times
  rw [← col_eq]
  pointwise [val_main_v30, val_main_v29, val_main_v28, norm_at]

theorem key_at (b : Fin 2) (h : Fin 16) (l : Fin 1024) (d : Fin 64) :
    val_main_v33 (F := Ideal) x A (ix4 b h l d) = Spec.times (Spec.p1 x b l) A (Spec.col h d) := by
  unfold Spec.times
  rw [← col_eq]
  pointwise [val_main_v33, val_main_v32, val_main_v31, pooled_at]

theorem value_at (b : Fin 2) (h : Fin 16) (l : Fin 1024) (d : Fin 64) :
    val_main_v36 (F := Ideal) x A (ix4 b h l d) = Spec.times (Spec.p1 x b l) A (Spec.col h d) := by
  unfold Spec.times
  rw [← col_eq]
  pointwise [val_main_v36, val_main_v35, val_main_v34, pooled_at]

theorem keyAbove_at (b : Fin 2) (h : Fin 16) (l : Fin 512) (d : Fin 64) :
    val_main_v63 (F := Ideal) x A (ix4 b h l d) = Spec.times (Spec.p2 x b l) A (Spec.col h d) := by
  unfold Spec.times
  rw [← col_eq]
  pointwise [val_main_v63, val_main_v62, val_main_v61, pooled2_at]

theorem valueAbove_at (b : Fin 2) (h : Fin 16) (l : Fin 512) (d : Fin 64) :
    val_main_v66 (F := Ideal) x A (ix4 b h l d) = Spec.times (Spec.p2 x b l) A (Spec.col h d) := by
  unfold Spec.times
  rw [← col_eq]
  pointwise [val_main_v66, val_main_v65, val_main_v64, pooled2_at]

theorem keyBelow_at (b : Fin 2) (h : Fin 16) (l : Fin 2048) (d : Fin 64) :
    val_main_v98 (F := Ideal) x A (ix4 b h l d) = Spec.times (Spec.p0 x b l) A (Spec.col h d) := by
  unfold Spec.times Spec.p0
  rw [← col_eq]
  pointwise [val_main_v98, val_main_v97, val_main_v96]

theorem valueBelow_at (b : Fin 2) (h : Fin 16) (l : Fin 2048) (d : Fin 64) :
    val_main_v101 (F := Ideal) x A (ix4 b h l d) = Spec.times (Spec.p0 x b l) A (Spec.col h d) := by
  unfold Spec.times Spec.p0
  rw [← col_eq]
  pointwise [val_main_v101, val_main_v100, val_main_v99]

end Cert.ReferenceIdeal.Rows
-- ==== Proof.RefCand.lean ====
/- The reference's candidates: the keys and the values of the eighteen rows of each query, and the scores. -/
module

public import proofs.«01_k».proof.Proof.RefRows

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe
open scoped BigOperators

variable (x : Spec.Rows) (Wq A : Spec.Weights) (g s : Spec.Line)

theorem keysNear_at (b : Fin 2) (h : Fin 16) (l : Fin 1024) (j : Fin 13) (d : Fin 64) :
    val_main_v53 (F := Ideal) x A (ix5 b h l j d) = Spec.times (Spec.p1 x b (Spec.near l j)) A (Spec.col h d) :=
  (Gathers.rows_at 1024 13 _ (val_main_v33 (F := Ideal) x A) (val_main_v52 (F := Ideal)) b h l j d (Spec.near l j) (Words.band_keys l j)).trans
    (key_at x A b h _ d)

theorem valuesNear_at (b : Fin 2) (h : Fin 16) (l : Fin 1024) (j : Fin 13) (d : Fin 64) :
    val_main_v60 (F := Ideal) x A (ix5 b h l j d) = Spec.times (Spec.p1 x b (Spec.near l j)) A (Spec.col h d) :=
  (Gathers.rows_at 1024 13 _ (val_main_v36 (F := Ideal) x A) (val_main_v59 (F := Ideal)) b h l j d (Spec.near l j) (Words.band_values l j)).trans
    (value_at x A b h _ d)

theorem keysAbove_at (b : Fin 2) (h : Fin 16) (l : Fin 1024) (j : Fin 3) (d : Fin 64) :
    val_main_v88 (F := Ideal) x A (ix5 b h l j d) = Spec.times (Spec.p2 x b (Spec.above l j)) A (Spec.col h d) :=
  (Gathers.rows_at 512 3 _ (val_main_v63 (F := Ideal) x A) (val_main_v87 (F := Ideal)) b h l j d (Spec.above l j) (Words.above_keys l j)).trans
    (keyAbove_at x A b h _ d)

theorem valuesAbove_at (b : Fin 2) (h : Fin 16) (l : Fin 1024) (j : Fin 3) (d : Fin 64) :
    val_main_v95 (F := Ideal) x A (ix5 b h l j d) = Spec.times (Spec.p2 x b (Spec.above l j)) A (Spec.col h d) :=
  (Gathers.rows_at 512 3 _ (val_main_v66 (F := Ideal) x A) (val_main_v94 (F := Ideal)) b h l j d (Spec.above l j) (Words.above_values l j)).trans
    (valueAbove_at x A b h _ d)

theorem keysBelow_at (b : Fin 2) (h : Fin 16) (l : Fin 1024) (j : Fin 2) (d : Fin 64) :
    val_main_v121 (F := Ideal) x A (ix5 b h l j d) = Spec.times (Spec.p0 x b (Spec.below l j)) A (Spec.col h d) :=
  (Gathers.rows_at 2048 2 _ (val_main_v98 (F := Ideal) x A) (val_main_v120 (F := Ideal)) b h l j d (Spec.below l j) (Words.below_keys l j)).trans
    (keyBelow_at x A b h _ d)

theorem valuesBelow_at (b : Fin 2) (h : Fin 16) (l : Fin 1024) (j : Fin 2) (d : Fin 64) :
    val_main_v128 (F := Ideal) x A (ix5 b h l j d) = Spec.times (Spec.p0 x b (Spec.below l j)) A (Spec.col h d) :=
  (Gathers.rows_at 2048 2 _ (val_main_v101 (F := Ideal) x A) (val_main_v127 (F := Ideal)) b h l j d (Spec.below l j) (Words.below_values l j)).trans
    (valueBelow_at x A b h _ d)

/-- Three lists of rows one after another. -/
theorem joined_at (u : FVec Ideal S2x16x1024x13x64 .f32) (v : FVec Ideal S2x16x1024x3x64 .f32) (w : FVec Ideal S2x16x1024x2x64 .f32)
    (b : Fin 2) (h : Fin 16) (l : Fin 1024) (j : Fin 18) (d : Fin 64) :
    concatenate S2x16x1024x18x64 3 [⟨S2x16x1024x13x64, u⟩, ⟨S2x16x1024x3x64, v⟩, ⟨S2x16x1024x2x64, w⟩]
        concatenates_S2x16x1024x13x64_S2x16x1024x3x64_S2x16x1024x2x64_S2x16x1024x18x64_d3 (ix5 b h l j d)
      = if h' : j.val < 13 then u (ix5 b h l ⟨j.val, h'⟩ d)
        else if h' : j.val - 13 < 3 then v (ix5 b h l ⟨j.val - 13, h'⟩ d)
        else w (ix5 b h l ⟨j.val - 13 - 3, by omega⟩ d) := by
  pointwise []

/-- The rows joined are the candidates' rows. -/
theorem joined_cand {u : FVec Ideal S2x16x1024x13x64 .f32} {v : FVec Ideal S2x16x1024x3x64 .f32} {w : FVec Ideal S2x16x1024x2x64 .f32}
    {b : Fin 2} {h : Fin 16} {l : Fin 1024} {d : Fin 64}
    (hu : ∀ j, u (ix5 b h l j d) = Spec.times (Spec.p1 x b (Spec.near l j)) A (Spec.col h d))
    (hv : ∀ j, v (ix5 b h l j d) = Spec.times (Spec.p2 x b (Spec.above l j)) A (Spec.col h d))
    (hw : ∀ j, w (ix5 b h l j d) = Spec.times (Spec.p0 x b (Spec.below l j)) A (Spec.col h d)) (j : Fin 18) :
    concatenate S2x16x1024x18x64 3 [⟨S2x16x1024x13x64, u⟩, ⟨S2x16x1024x3x64, v⟩, ⟨S2x16x1024x2x64, w⟩]
        concatenates_S2x16x1024x13x64_S2x16x1024x3x64_S2x16x1024x2x64_S2x16x1024x18x64_d3 (ix5 b h l j d)
      = Spec.times (Spec.cand x b l j) A (Spec.col h d) := by
  rw [joined_at]
  unfold Spec.cand
  by_cases h1 : j.val < 13
  · rw [dif_pos h1, dif_pos h1]; exact hu _
  · rw [dif_neg h1, dif_neg h1]
    by_cases h2 : j.val < 16
    · rw [dif_pos (show j.val - 13 < 3 by omega), dif_pos h2]; exact hv _
    · rw [dif_neg (show ¬ j.val - 13 < 3 by omega), dif_neg h2]
      refine (hw _).trans (congrArg (fun r => Spec.times (Spec.p0 x b (Spec.below l r)) A (Spec.col h d)) (Fin.ext ?_))
      show j.val - 13 - 3 = j.val - 16
      omega

theorem keys_at (b : Fin 2) (h : Fin 16) (l : Fin 1024) (j : Fin 18) (d : Fin 64) :
    val_main_v129 (F := Ideal) x A (ix5 b h l j d) = Spec.times (Spec.cand x b l j) A (Spec.col h d) :=
  joined_cand x A (fun j => keysNear_at x A b h l j d) (fun j => keysAbove_at x A b h l j d) (fun j => keysBelow_at x A b h l j d) j

theorem values_at (b : Fin 2) (h : Fin 16) (l : Fin 1024) (j : Fin 18) (d : Fin 64) :
    val_main_v130 (F := Ideal) x A (ix5 b h l j d) = Spec.times (Spec.cand x b l j) A (Spec.col h d) :=
  joined_cand x A (fun j => valuesNear_at x A b h l j d) (fun j => valuesAbove_at x A b h l j d) (fun j => valuesBelow_at x A b h l j d) j

/-- The scores. -/
theorem score_at (b : Fin 2) (h : Fin 16) (l : Fin 1024) (j : Fin 18) :
    val_main_v133 (F := Ideal) x Wq A g s (ix4 b h l j) = Spec.score x Wq A g s b h l j := by
  rw [val_main_v133_apply, val_main_v132_apply, val_main_v131_apply]
  refine congrArg (fun a => Ideal.div a (Ideal.ofBits .f32 0x41000000#32)) (Finset.sum_congr rfl fun d _ => congrArg₂ (fun a b : EReal => a * b) ?_ ?_)
  · exact (congrArg (val_main_v30 (F := Ideal) x Wq g s) (eq_ix4 _)).trans (query_at x Wq g s b h l d)
  · exact (congrArg (val_main_v129 (F := Ideal) x A) (eq_ix5 _)).trans (keys_at x A b h l j d)

end Cert.ReferenceIdeal.Rows
-- ==== Proof.RefTop.lean ====
/- The reference's top-k at an index: the score and the number of the candidate at each of the first sixteen places. -/
module

public import proofs.«01_k».proof.Proof.RefCand

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe
open scoped BigOperators

theorem along_ix4 (b : Fin 2) (h : Fin 16) (l : Fin 1024) (j k : Fin 18) :
    Shape.Idx.along (s := S2x16x1024x18) (ix4 b h l j) 3 k = ix4 b h l k := by
  unfold Shape.Idx.along
  funext a
  match a with
  | ⟨0, _⟩ => rfl
  | ⟨1, _⟩ => rfl
  | ⟨2, _⟩ => rfl
  | ⟨3, _⟩ => rfl

/-- The first sixteen places of a line of eighteen. -/
theorem front_at {α : Type} (y : S2x16x1024x18.Idx → α) (b : Fin 2) (h : Fin 16) (l : Fin 1024) (r : Fin 16) :
    extractStridedSlice S2x16x1024x16 (fun _ => 0) y sliceFits_S2x16x1024x18_S2x16x1024x16 (ix4 b h l r) = y (ix4 b h l (r.castLE (by decide))) := by
  unfold extractStridedSlice
  refine congrArg y (funext fun a => Fin.ext ?_)
  match a with
  | ⟨0, _⟩ => exact (Nat.zero_add _)
  | ⟨1, _⟩ => exact (Nat.zero_add _)
  | ⟨2, _⟩ => exact (Nat.zero_add _)
  | ⟨3, _⟩ => exact (Nat.zero_add _)

/-- The order in which a line is sorted. -/
theorem line_order (x : FVec Ideal S2x16x1024x18 .f32) (y : IVec S2x16x1024x18 32) (b : Fin 2) (h : Fin 16) (l : Fin 1024) (j : Fin 18) :
    (Host.sort2 S2x16x1024x18 3 (fun p q => FloatOps.cmpfTotal .gt p.1 q.1) x y).1 (ix4 b h l j)
        = x (ix4 b h l (Attn.order (fun k => x (ix4 b h l k)) j))
      ∧ (Host.sort2 S2x16x1024x18 3 (fun p q => FloatOps.cmpfTotal .gt p.1 q.1) x y).2 (ix4 b h l j)
        = y (ix4 b h l (Attn.order (fun k => x (ix4 b h l k)) j)) := by
  have e : (sortedFrom fun k k' : Fin 18 => FloatOps.cmpfTotal (F := Ideal) .gt (x (Shape.Idx.along (s := S2x16x1024x18) (ix4 b h l j) 3 k))
      (x (Shape.Idx.along (s := S2x16x1024x18) (ix4 b h l j) 3 k')) == 1#1) = Attn.order (fun k => x (ix4 b h l k)) := by
    unfold Attn.order
    refine congrArg sortedFrom (funext fun k => funext fun k' => ?_)
    rw [along_ix4, along_ix4]
    rfl
  have e3 := congrFun e j
  unfold Host.sort2
  rw [dif_pos (show 3 < S2x16x1024x18.rank by decide)]
  exact ⟨congrArg x ((congrArg (Shape.Idx.along (s := S2x16x1024x18) (ix4 b h l j) 3) e3).trans (along_ix4 b h l j _)),
    congrArg y ((congrArg (Shape.Idx.along (s := S2x16x1024x18) (ix4 b h l j) 3) e3).trans (along_ix4 b h l j _))⟩

/-- The candidates' numbers, one line's like another's. -/
abbrev numbers : IVec S2x16x1024x18 32 := fun i => if hd : 3 < S2x16x1024x18.rank then iotaInDim S2x16x1024x18 32 ⟨3, hd⟩ i else 0#32

/-- Top-k's values. -/
theorem topK_value (x : FVec Ideal S2x16x1024x18 .f32) (b : Fin 2) (h : Fin 16) (l : Fin 1024) (r : Fin 16) :
    (Host.topK S2x16x1024x16 3 (FloatOps.cmpfTotal .gt) x sliceFits_S2x16x1024x18_S2x16x1024x16).1 (ix4 b h l r)
      = x (ix4 b h l (Attn.top (fun k => x (ix4 b h l k)) r)) := by
  exact (front_at (Host.sort2 S2x16x1024x18 3 (fun p q => FloatOps.cmpfTotal .gt p.1 q.1) x numbers).1 b h l r).trans
    (line_order x numbers b h l _).1

/-- Top-k's indices. -/
theorem topK_index (x : FVec Ideal S2x16x1024x18 .f32) (b : Fin 2) (h : Fin 16) (l : Fin 1024) (r : Fin 16) :
    (Host.topK S2x16x1024x16 3 (FloatOps.cmpfTotal .gt) x sliceFits_S2x16x1024x18_S2x16x1024x16).2 (ix4 b h l r)
      = BitVec.ofNat 32 (Attn.top (fun k => x (ix4 b h l k)) r).val := by
  refine (front_at (Host.sort2 S2x16x1024x18 3 (fun p q => FloatOps.cmpfTotal .gt p.1 q.1) x numbers).2 b h l r).trans
    ((line_order x numbers b h l _).2.trans ?_)
  exact dif_pos (show 3 < S2x16x1024x18.rank by decide)

variable (x : Spec.Rows) (Wq Wk Wv : Spec.Weights) (g s : Spec.Line)

theorem line_score (b : Fin 2) (h : Fin 16) (l : Fin 1024) :
    (fun k => val_main_v133 (F := Ideal) x Wq Wk g s (ix4 b h l k)) = Spec.score x Wq Wk g s b h l :=
  funext fun k => score_at x Wq Wk g s b h l k

theorem kept_score (b : Fin 2) (h : Fin 16) (l : Fin 1024) (r : Fin 16) :
    val_main_values (F := Ideal) x Wq Wk g s (ix4 b h l r) = Spec.score x Wq Wk g s b h l (Attn.top (Spec.score x Wq Wk g s b h l) r) := by
  refine (topK_value (val_main_v133 (F := Ideal) x Wq Wk g s) b h l r).trans ?_
  rw [line_score]
  exact score_at x Wq Wk g s b h l _

theorem kept_index (b : Fin 2) (h : Fin 16) (l : Fin 1024) (r : Fin 16) :
    val_main_indices (F := Ideal) x Wq Wk g s (ix4 b h l r) = BitVec.ofNat 32 (Attn.top (Spec.score x Wq Wk g s b h l) r).val := by
  refine (topK_index (val_main_v133 (F := Ideal) x Wq Wk g s) b h l r).trans ?_
  rw [line_score]

theorem v134_at (b : Fin 2) (h : Fin 16) (l : Fin 1024) (r : Fin 16) (e : Fin 1) :
    val_main_v134 (F := Ideal) x Wq Wk g s (ix5 b h l r e) = BitVec.ofNat 32 (Attn.top (Spec.score x Wq Wk g s b h l) r).val := by
  rw [val_main_v134_apply]
  exact (congrArg (val_main_indices (F := Ideal) x Wq Wk g s) (eq_ix4 _)).trans (kept_index x Wq Wk g s b h l r)

/-- The index a candidate is taken by, wrapped as a negative one would be. -/
theorem wrapped_at (b : Fin 2) (h : Fin 16) (l : Fin 1024) (r : Fin 16) (e : Fin 1) :
    val_main_call2_v4 (F := Ideal) x Wq Wk g s (ix5 b h l r e)
      = (Scalar.select (IntOp.cmpi .slt (BitVec.ofNat 32 (Attn.top (Spec.score x Wq Wk g s b h l) r).val) 0#32)
          (IntOp.addi (BitVec.ofNat 32 (Attn.top (Spec.score x Wq Wk g s b h l) r).val) (BitVec.ofNat 32 18))
          (BitVec.ofNat 32 (Attn.top (Spec.score x Wq Wk g s b h l) r).val)) := by
  rw [val_main_call2_v4_apply, val_main_call2_v1_apply, val_main_call2_v3_apply, val_main_call2_v0_apply, val_main_call2_v2_apply,
    v134_at]
  rfl

/-- Whether such an index is in range. -/
theorem inRange_word (k : Fin 18) :
    IntOp.andi (IntOp.cmpi .sge (Scalar.select (IntOp.cmpi .slt (BitVec.ofNat 32 k.val) 0#32) (IntOp.addi (BitVec.ofNat 32 k.val) (BitVec.ofNat 32 18)) (BitVec.ofNat 32 k.val)) 0#32)
      (IntOp.cmpi .sle (Scalar.select (IntOp.cmpi .slt (BitVec.ofNat 32 k.val) 0#32) (IntOp.addi (BitVec.ofNat 32 k.val) (BitVec.ofNat 32 18)) (BitVec.ofNat 32 k.val)) 17#32)
      = 1#1 := by
  revert k; decide

theorem inRange_at (b : Fin 2) (h : Fin 16) (l : Fin 1024) (r : Fin 16) (e : Fin 1) :
    val_main_call2_v10 (F := Ideal) x Wq Wk g s (ix5 b h l r e) = 1#1 := by
  rw [val_main_call2_v10_apply, val_main_call2_v6_apply, val_main_call2_v9_apply, val_main_call2_v5_apply, val_main_call2_v8_apply,
    val_main_call2_v7_apply, wrapped_at]
  exact inRange_word _

theorem all_of_one (y : IVec S2x16x1024x16x1 1) (u : IVec S_ 1) (hu : u = constantI S_ 1 1#1) (b : Fin 2) (h : Fin 16) (l : Fin 1024) (r : Fin 16) :
    Host.reduce IntOp.andi y u reducesTo_S2x16x1024x16x1_S2x16x1024x16_d4 h_S_ (ix4 b h l r) = IntOp.andi (y (ix5 b h l r 0)) 1#1 := by
  subst hu
  have hR : S2x16x1024x16x1.Reduces [4] S2x16x1024x16 := by decide
  have hl : ∀ e : Fin 1, hR.lift (ix4 b h l r) e = ix5 b h l r e := fun e => funext fun a => match a with
    | ⟨0, _⟩ => rfl
    | ⟨1, _⟩ => rfl
    | ⟨2, _⟩ => rfl
    | ⟨3, _⟩ => rfl
    | ⟨4, _⟩ => rfl
  have e : y ∘ hR.lift (ix4 b h l r) = fun e : Fin 1 => y (ix5 b h l r e) := funext fun e => congrArg y (hl e)
  refine (Host.reduce_eq_fold_single _ _ _ reducesTo_S2x16x1024x16x1_S2x16x1024x16_d4 hR h_S_ _).trans ?_
  rw [e]
  exact Finset.fold_singleton

theorem mask_at (b : Fin 2) (h : Fin 16) (l : Fin 1024) (r : Fin 16) :
    val_main_call2_v11 (F := Ideal) x Wq Wk g s (ix4 b h l r) = 1#1 :=
  (all_of_one (val_main_call2_v10 (F := Ideal) x Wq Wk g s) _ rfl b h l r).trans
    ((congrArg (fun w => IntOp.andi w 1#1) (inRange_at x Wq Wk g s b h l r 0)).trans rfl)

/-- The values' rows of the kept candidates. -/
theorem kept_value (b : Fin 2) (h : Fin 16) (l : Fin 1024) (r : Fin 16) (d : Fin 64) :
    val_main_v135 (F := Ideal) x Wq Wk Wv g s (ix5 b h l r d)
      = Spec.times (Spec.cand x b l (Attn.top (Spec.score x Wq Wk g s b h l) r)) Wv (Spec.col h d) := by
  rw [val_main_v135_apply, val_main_call2_v13_apply]
  have hm : val_main_call2_v11 (F := Ideal) x Wq Wk g s (idx_main_call2_v13 (ix5 b h l r d)) = 1#1 :=
    (congrArg (val_main_call2_v11 (F := Ideal) x Wq Wk g s) (eq_ix4 _)).trans (mask_at x Wq Wk g s b h l r)
  rw [hm]
  refine Eq.trans (b := val_main_call2_v12 (F := Ideal) x Wq Wk Wv g s (ix5 b h l r d)) rfl ?_
  refine (Gathers.pick_at _ (val_main_v130 (F := Ideal) x Wv) (val_main_call2_v4 (F := Ideal) x Wq Wk g s) b h l r d
    (Attn.top (Spec.score x Wq Wk g s b h l) r) ?_).trans (values_at x Wv b h l _ d)
  rw [wrapped_at]
  exact Words.wrap_toNat _ 18 (by omega)

end Cert.ReferenceIdeal.Rows
-- ==== Proof.RefResult.lean ====
/- The reference's softmax over the kept candidates, the attention, and its result. -/
module

public import proofs.«01_k».proof.Proof.RefTop

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe
open scoped BigOperators

theorem least_eq : Ideal.ofBits .f32 0xFF800000#32 = (⊥ : EReal) := by simp [Ideal.ofBits, Ideal.ieee]

/-- The greatest of a line of sixteen. -/
theorem greatest_of (v : FVec Ideal S2x16x1024x16 .f32) (u : FVec Ideal S_ .f32) (hu : u = constant S_ .f32 0xFF800000#32)
    (b : Fin 2) (h : Fin 16) (l : Fin 1024) :
    Host.reduce FloatOps.maximumf v u reducesTo_S2x16x1024x16_S2x16x1024_d3 h_S_ (ix3 b h l)
      = Finset.univ.fold (max : EReal → EReal → EReal) ⊥ fun r : Fin 16 => v (ix4 b h l r) := by
  subst hu
  have hR : S2x16x1024x16.Reduces [3] S2x16x1024 := by decide
  have hl : ∀ e : Fin 16, hR.lift (ix3 b h l) e = ix4 b h l e := fun e => funext fun a => match a with
    | ⟨0, _⟩ => rfl
    | ⟨1, _⟩ => rfl
    | ⟨2, _⟩ => rfl
    | ⟨3, _⟩ => rfl
  have e : v ∘ hR.lift (ix3 b h l) = fun e : Fin 16 => v (ix4 b h l e) := funext fun e => congrArg v (hl e)
  refine (Host.reduce_eq_fold_single _ _ _ reducesTo_S2x16x1024x16_S2x16x1024_d3 hR h_S_ _).trans ?_
  rw [e]
  exact congrArg (fun z => Finset.univ.fold (max : EReal → EReal → EReal) z fun r : Fin 16 => v (ix4 b h l r)) least_eq

variable (x : Spec.Rows) (Wq Wk Wv Wp : Spec.Weights) (g s : Spec.Line)

theorem v136_at (b : Fin 2) (h : Fin 16) (l : Fin 1024) :
    val_main_v136 (F := Ideal) x Wq Wk g s (ix3 b h l)
      = Finset.univ.fold (max : EReal → EReal → EReal) ⊥ fun r : Fin 16 =>
          Spec.score x Wq Wk g s b h l (Attn.top (Spec.score x Wq Wk g s b h l) r) :=
  (greatest_of (val_main_values (F := Ideal) x Wq Wk g s) _ rfl b h l).trans
    (congrArg (Finset.univ.fold (max : EReal → EReal → EReal) ⊥) (funext fun r => kept_score x Wq Wk g s b h l r))

theorem v138_at (b : Fin 2) (h : Fin 16) (l : Fin 1024) :
    val_main_v138 (F := Ideal) x Wq Wk g s (ix3 b h l)
      = Finset.univ.fold (max : EReal → EReal → EReal) ⊥ fun r : Fin 16 =>
          Spec.score x Wq Wk g s b h l (Attn.top (Spec.score x Wq Wk g s b h l) r) := by
  rw [val_main_v138_apply, val_main_v137_apply]
  refine (congrArg₂ (max : EReal → EReal → EReal) least_eq (v136_at x Wq Wk g s b h l)).trans ?_
  exact max_eq_right bot_le

theorem v140_at (b : Fin 2) (h : Fin 16) (l : Fin 1024) (r : Fin 16) :
    val_main_v140 (F := Ideal) x Wq Wk g s (ix4 b h l r)
      = Finset.univ.fold (max : EReal → EReal → EReal) ⊥ fun r : Fin 16 =>
          Spec.score x Wq Wk g s b h l (Attn.top (Spec.score x Wq Wk g s b h l) r) := by
  rw [val_main_v140_apply, val_main_v139_apply]
  exact (congrArg (val_main_v138 (F := Ideal) x Wq Wk g s) (eq_ix3 _)).trans (v138_at x Wq Wk g s b h l)

/-- The exponentials. -/
theorem exp_at (b : Fin 2) (h : Fin 16) (l : Fin 1024) (r : Fin 16) :
    val_main_v142 (F := Ideal) x Wq Wk g s (ix4 b h l r) = Attn.expTop (Spec.score x Wq Wk g s b h l) r := by
  rw [val_main_v142_apply, val_main_v141_apply]
  exact congrArg Ideal.exp (congrArg₂ (fun a b : EReal => a - b) (kept_score x Wq Wk g s b h l r) (v140_at x Wq Wk g s b h l r))

theorem v143_at (b : Fin 2) (h : Fin 16) (l : Fin 1024) :
    val_main_v143 (F := Ideal) x Wq Wk g s (ix3 b h l) = ∑ r : Fin 16, Attn.expTop (Spec.score x Wq Wk g s b h l) r := by
  rw [val_main_v143_apply]
  refine (congrArg₂ (fun a b : EReal => a + b) (show _ = (0 : EReal) by
    exact (by simp [Ideal.ofBits, Ideal.ieee] : Ideal.ofBits .f32 0x00000000#32 = (0 : EReal)))
    (Finset.sum_congr rfl fun r _ => ?_)).trans (zero_add _)
  exact (congrArg (val_main_v142 (F := Ideal) x Wq Wk g s) (eq_ix4 _)).trans (exp_at x Wq Wk g s b h l r)

theorem v145_at (b : Fin 2) (h : Fin 16) (l : Fin 1024) (r : Fin 16) :
    val_main_v145 (F := Ideal) x Wq Wk g s (ix4 b h l r) = ∑ r : Fin 16, Attn.expTop (Spec.score x Wq Wk g s b h l) r := by
  rw [val_main_v145_apply, val_main_v144_apply]
  exact (congrArg (val_main_v143 (F := Ideal) x Wq Wk g s) (eq_ix3 _)).trans (v143_at x Wq Wk g s b h l)

/-- The weights of the kept candidates. -/
theorem weight_at (b : Fin 2) (h : Fin 16) (l : Fin 1024) (r : Fin 16) :
    val_main_v146 (F := Ideal) x Wq Wk g s (ix4 b h l r) = Attn.weightTop (Spec.score x Wq Wk g s b h l) r := by
  rw [val_main_v146_apply]
  exact congrArg₂ Ideal.div (exp_at x Wq Wk g s b h l r) (v145_at x Wq Wk g s b h l r)

theorem v147_at (b : Fin 2) (h : Fin 16) (l : Fin 1024) (d : Fin 64) :
    val_main_v147 (F := Ideal) x Wq Wk Wv g s (ix4 b h l d)
      = ∑ r : Fin 16, Attn.weightTop (Spec.score x Wq Wk g s b h l) r
          * Spec.times (Spec.cand x b l (Attn.top (Spec.score x Wq Wk g s b h l) r)) Wv (Spec.col h d) := by
  rw [val_main_v147_apply]
  refine Finset.sum_congr rfl fun r _ => congrArg₂ (fun a b : EReal => a * b) ?_ ?_
  · exact (congrArg (val_main_v146 (F := Ideal) x Wq Wk g s) (eq_ix4 _)).trans (weight_at x Wq Wk g s b h l r)
  · exact (congrArg (val_main_v135 (F := Ideal) x Wq Wk Wv g s) (eq_ix5 _)).trans (kept_value x Wq Wk Wv g s b h l r d)

theorem col_head (n : Fin 1024) : Spec.col (Spec.head n) ⟨n.val % 64, by omega⟩ = n :=
  Fin.ext (by show 64 * (n.val / 64) + n.val % 64 = n.val; omega)

/-- The attention, its heads side by side. -/
theorem attend_at (b : Fin 2) (l n : Fin 1024) :
    val_main_v149 (F := Ideal) x Wq Wk Wv g s (ix3 b l n) = Spec.attend x Wq Wk Wv g s b l n := by
  rw [val_main_v149_apply, val_main_v148_apply]
  have e : idx_main_v148 (idx_main_v149 (ix3 b l n)) = ix4 b (Spec.head n) l ⟨n.val % 64, by omega⟩ := by
    funext a
    refine Fin.ext ?_
    match a with
    | ⟨0, _⟩ => show ((b.val * 1024 + l.val) * 1024 + n.val) / 1048576 = b.val; omega
    | ⟨1, _⟩ => show ((b.val * 1024 + l.val) * 1024 + n.val) / 64 % 16 = n.val / 64; omega
    | ⟨2, _⟩ => show ((b.val * 1024 + l.val) * 1024 + n.val) / 1024 % 1024 = l.val; omega
    | ⟨3, _⟩ => show ((b.val * 1024 + l.val) * 1024 + n.val) % 64 = n.val % 64; omega
  refine (congrArg (val_main_v147 (F := Ideal) x Wq Wk Wv g s) e).trans ((v147_at x Wq Wk Wv g s b (Spec.head n) l _).trans ?_)
  rw [col_head]
  rfl

/-- The reference's result. -/
theorem result_at (b : Fin 2) (l o : Fin 1024) :
    val_main_v150 (F := Ideal) x Wq Wk Wv Wp g s (ix3 b l o) = Spec.result x Wq Wk Wv Wp g s b l o := by
  rw [val_main_v150_apply]
  unfold Spec.result Spec.times
  refine Finset.sum_congr rfl fun n _ => congrArg₂ (fun a b : EReal => a * b) ?_ (congrArg Wp (eq_ix2 _))
  exact (congrArg (val_main_v149 (F := Ideal) x Wq Wk Wv g s) (eq_ix3 _)).trans (attend_at x Wq Wk Wv g s b l n)

end Cert.ReferenceIdeal.Rows
-- ==== Proof.Equation.lean ====
/- The equation: over the extended reals, on finite inputs, the kernel's result is the reference's. -/
module

public import proofs.«01_k».proof.Defs
public import proofs.«01_k».proof.Proof.KernelResult
public import proofs.«01_k».proof.Proof.RefResult
public import proofs.«01_k».proof.Proof.Gen.ReferenceIdeal.Run
public import Idealize.ShloMosaic.Adequacy

@[expose] public section

set_option maxRecDepth 16384

noncomputable section

namespace Cert.Equation

open Idealize.ShloMosaic Idealize.ShloMosaic.TcCoe Idealize.SL.Sem

/-- The precondition's shape facts. -/
theorem pre_facts : Cert.Pre_finite_inputs.Facts := ⟨by decide, by decide, by decide⟩

theorem greatest_eq : Ideal.ofBits .f32 0x7F800000#32 = (⊤ : EReal) := by simp [Ideal.ofBits, Ideal.ieee]

/-- A number whose absolute value is below infinity is finite. -/
theorem finite_of_below {a : EReal} (h : Ideal.cmp .olt (max a (-a)) (Ideal.ofBits .f32 0x7F800000#32) = 1#1) : Spec.Fin' a := by
  rw [greatest_eq] at h
  have h' : max a (-a) < ⊤ := by
    by_contra hn
    have : Ideal.cmp .olt (max a (-a)) ⊤ = 0#1 := by simp [Ideal.cmp, hn]
    rw [this] at h
    exact absurd h (by decide)
  refine ⟨fun e => ?_, fun e => ?_⟩
  · exact absurd ((le_max_left a (-a)).trans_lt h') (by rw [e]; exact lt_irrefl _)
  · exact absurd ((le_max_right a (-a)).trans_lt h') (by rw [e, EReal.neg_bot]; exact lt_irrefl _)

/-- The kernel's result and the reference's are one array. -/
theorem results_eq (m : (l : Loc KernelIdeal.nD KernelIdeal.τ KernelIdeal.sig) → Buf (Elt Ideal) l) (g : Dev KernelIdeal.nD → PrngReg)
    (c : Dev KernelIdeal.nD) (hp : Cert.Pre_KernelIdeal_finite_inputs (hPre_finite_inputs := pre_facts) m) :
    Cert.ReferenceIdeal.Read.val_main_v150 (F := Ideal) (KernelIdeal.Chain.X m c) (KernelIdeal.Chain.Wq m c) (KernelIdeal.Chain.Wk m c)
        (KernelIdeal.Chain.Wv m c) (KernelIdeal.Chain.Wp m c) (KernelIdeal.Chain.Ga m c) (KernelIdeal.Chain.Be m c)
      = KernelIdeal.Run.W19 m g c (Proc.devRef .tc KernelIdeal.main_v22) := by
  obtain ⟨h0, h1, h2, h5, h6⟩ := hp c
  funext i
  obtain ⟨b, l, o, rfl⟩ : ∃ (b : Fin 2) (l o : Fin 1024), i = ix3 b l o := ⟨i 0, i 1, i 2, eq_ix3 i⟩
  exact (ReferenceIdeal.Rows.result_at _ _ _ _ _ _ _ b l o).trans
    (KernelIdeal.Chain.at_v22 m g c (fun i => finite_of_below (congrFun h0 i)) (fun i => finite_of_below (congrFun h1 i))
      (fun i => finite_of_below (congrFun h2 i)) (fun i => finite_of_below (congrFun h5 i)) (fun i => finite_of_below (congrFun h6 i)) b l o).symm

/-- The two programs, started from memories that agree on the arguments, end with one result. -/
theorem algebraic : Cert.algebraic_KernelIdeal_ReferenceIdeal_pre_finite_inputs (hKernelIdeal := Cert.KernelIdeal.Gen.facts)
    (hReferenceIdeal := Cert.ReferenceIdeal.Gen.facts) (hPre_finite_inputs := pre_facts) := by
  intro m g m' g' hp hargs
  refine ⟨fun c => KernelIdeal.Run.W19 m g c (Proc.devRef .tc KernelIdeal.main_v22), ?_, ?_⟩
  · exact (θ_run Cert.KernelIdeal.defs _ _).mono (fun _ h => h.1) (Cert.KernelIdeal.Run.main_runs (F := Ideal) m g)
  · refine (θ_run Cert.ReferenceIdeal.defs _ _).mono (fun r h c => ⟨?_, (h c).2⟩) (Cert.ReferenceIdeal.Value.run (F := Ideal) m' g')
    obtain ⟨a0, a1, a2, a3, a4, a5, a6⟩ := hargs c
    refine (h c).1.trans ((Cert.ReferenceIdeal.Read.val_main_v150_eq (F := Ideal) (StableHlo.launchContents m' c)).trans (Eq.trans ?_ (results_eq m g c hp)))
    exact congr (congr (congr (congr (congr (congr (congrArg (Cert.ReferenceIdeal.Read.val_main_v150 (F := Ideal)) a0) a1) a2) a3) a4) a5) a6

end Cert.Equation
-- ==== Proof.lean ====
/- The certificate's claims, assembled: the compiled program, its idealized reading and the reference run and are
   quiescent, and over the extended reals the kernel's result is the reference's on finite inputs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.RunBits.Launch
public import proofs.«01_k».proof.Proof.RunIdeal.Launch
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The compiled program runs from any memory, keeps its arguments, and ends with every counter at zero. -/
theorem quiescent_bits : Cert.quiescent_Kernel (hKernel := Cert.Kernel.Gen.facts) := fun m g _ =>
  (θ_run Cert.Kernel.defs _ _).mono (fun _ h => ⟨fun c => (h.1 c).2, h.2⟩) (Cert.Kernel.Run.main_runs (F := Bits) m g)

/-- The same of the program read over the extended reals. -/
theorem quiescent_ideal : Cert.quiescent_KernelIdeal (hKernelIdeal := Cert.KernelIdeal.Gen.facts) := fun m g _ =>
  (θ_run Cert.KernelIdeal.defs _ _).mono (fun _ h => ⟨fun c => (h.1 c).2, h.2⟩)
    (Cert.KernelIdeal.Run.main_runs (F := Ideal) m g)

/-- The same of the reference: its run, and that a program of host operations leaves every counter at zero. -/
theorem quiescent_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The two runs that need no precondition, stated under it. -/
theorem quiescent_ideal_pre : Cert.quiescent_KernelIdeal_pre_finite_inputs (hKernelIdeal := Cert.KernelIdeal.Gen.facts)
    (hPre_finite_inputs := Cert.Equation.pre_facts) := fun m g _ => quiescent_ideal m g trivial

theorem quiescent_reference_pre : Cert.quiescent_ReferenceIdeal_pre_finite_inputs (hReferenceIdeal := Cert.ReferenceIdeal.Gen.facts)
    (hPre_finite_inputs := Cert.Equation.pre_facts) := fun m g _ => quiescent_reference m g trivial

/-- Every claim of the certificate. -/
theorem claim : Cert.Claim :=
  ⟨Cert.Kernel.Gen.facts, Cert.KernelIdeal.Gen.facts, Cert.ReferenceIdeal.Gen.facts, Cert.Equation.pre_facts,
    quiescent_bits, quiescent_ideal, quiescent_ideal_pre, quiescent_reference, quiescent_reference_pre, trivial,
    Cert.Equation.algebraic⟩

end Cert.Proof

end
